-- ==== Defs.lean ====
def Pre_OutFfn (m : (ℓ : Loc Cert.OutFfn.nD Cert.OutFfn.τ Cert.OutFfn.sig) → Buf (Elt Bits) ℓ) : Prop :=
  True

def Pre_OutFfnIdeal (m : (ℓ : Loc Cert.OutFfnIdeal.nD Cert.OutFfnIdeal.τ Cert.OutFfnIdeal.sig) → Buf (Elt Ideal) ℓ) : Prop :=
  True

def Pre_OutFfnRefIdeal (m : (ℓ : Loc Cert.OutFfnRefIdeal.nD Cert.OutFfnRefIdeal.τ Cert.OutFfnRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def quiescent_OutFfn [hOutFfn : Cert.OutFfn.Facts] : Prop :=
  ∀ (m : (ℓ : Loc Cert.OutFfn.nD Cert.OutFfn.τ Cert.OutFfn.sig) → Buf (Elt Bits) ℓ) (g : Dev Cert.OutFfn.nD → PrngReg), Pre_OutFfn m →
    θ_run (Cert.OutFfn.defs (F := Bits)) (onTc (τ := Cert.OutFfn.τ) (Cert.OutFfn.main (F := Bits))) ⟨m, fun _ => 0, g⟩ (fun r => (∀ c : Dev Cert.OutFfn.nD,
      r.2.mem ((c.tc : Thread Cert.OutFfn.nD Cert.OutFfn.τ).loc Cert.OutFfn.main_arg0) = m ((c.tc : Thread Cert.OutFfn.nD Cert.OutFfn.τ).loc Cert.OutFfn.main_arg0)
      ∧ r.2.mem ((c.tc : Thread Cert.OutFfn.nD Cert.OutFfn.τ).loc Cert.OutFfn.main_arg1) = m ((c.tc : Thread Cert.OutFfn.nD Cert.OutFfn.τ).loc Cert.OutFfn.main_arg1)
      ∧ r.2.mem ((c.tc : Thread Cert.OutFfn.nD Cert.OutFfn.τ).loc Cert.OutFfn.main_arg2) = m ((c.tc : Thread Cert.OutFfn.nD Cert.OutFfn.τ).loc Cert.OutFfn.main_arg2)
      ∧ r.2.mem ((c.tc : Thread Cert.OutFfn.nD Cert.OutFfn.τ).loc Cert.OutFfn.main_arg3) = m ((c.tc : Thread Cert.OutFfn.nD Cert.OutFfn.τ).loc Cert.OutFfn.main_arg3)
      ∧ r.2.mem ((c.tc : Thread Cert.OutFfn.nD Cert.OutFfn.τ).loc Cert.OutFfn.main_arg4) = m ((c.tc : Thread Cert.OutFfn.nD Cert.OutFfn.τ).loc Cert.OutFfn.main_arg4)
      ∧ r.2.mem ((c.tc : Thread Cert.OutFfn.nD Cert.OutFfn.τ).loc Cert.OutFfn.main_arg5) = m ((c.tc : Thread Cert.OutFfn.nD Cert.OutFfn.τ).loc Cert.OutFfn.main_arg5)
      ∧ r.2.mem ((c.tc : Thread Cert.OutFfn.nD Cert.OutFfn.τ).loc Cert.OutFfn.main_arg6) = m ((c.tc : Thread Cert.OutFfn.nD Cert.OutFfn.τ).loc Cert.OutFfn.main_arg6)
      ∧ r.2.mem ((c.tc : Thread Cert.OutFfn.nD Cert.OutFfn.τ).loc Cert.OutFfn.main_arg7) = m ((c.tc : Thread Cert.OutFfn.nD Cert.OutFfn.τ).loc Cert.OutFfn.main_arg7)
      ∧ r.2.mem ((c.tc : Thread Cert.OutFfn.nD Cert.OutFfn.τ).loc Cert.OutFfn.main_arg8) = m ((c.tc : Thread Cert.OutFfn.nD Cert.OutFfn.τ).loc Cert.OutFfn.main_arg8)
      ∧ r.2.mem ((c.tc : Thread Cert.OutFfn.nD Cert.OutFfn.τ).loc Cert.OutFfn.main_arg9) = m ((c.tc : Thread Cert.OutFfn.nD Cert.OutFfn.τ).loc Cert.OutFfn.main_arg9)
      ∧ r.2.mem ((c.tc : Thread Cert.OutFfn.nD Cert.OutFfn.τ).loc Cert.OutFfn.main_arg10) = m ((c.tc : Thread Cert.OutFfn.nD Cert.OutFfn.τ).loc Cert.OutFfn.main_arg10))
      ∧ r.2.sem = fun _ => 0)

def quiescent_OutFfnIdeal [hOutFfnIdeal : Cert.OutFfnIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg), Pre_OutFfnIdeal m →
    θ_run (Cert.OutFfnIdeal.defs (F := Ideal)) (onTc (τ := Cert.OutFfnIdeal.τ) (Cert.OutFfnIdeal.main (F := Ideal))) ⟨m, fun _ => 0, g⟩ (fun r => (∀ c : Dev Cert.OutFfnIdeal.nD,
      r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
      ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
      ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
      ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
      ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
      ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
      ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
      ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7)
      ∧ r.2.mem ((c.tc : Thread Cert.OutFfnIdeal.nD Cert.OutFfnIdeal.τ).loc Cert.OutFfnIdeal.main_arg8) = m ((c.tc : Thread Cert.OutFfnIdeal.nD Cert.OutFfnIdeal.τ).loc Cert.OutFfnIdeal.main_arg8)
      ∧ r.2.mem ((c.tc : Thread Cert.OutFfnIdeal.nD Cert.OutFfnIdeal.τ).loc Cert.OutFfnIdeal.main_arg9) = m ((c.tc : Thread Cert.OutFfnIdeal.nD Cert.OutFfnIdeal.τ).loc Cert.OutFfnIdeal.main_arg9)
      ∧ r.2.mem ((c.tc : Thread Cert.OutFfnIdeal.nD Cert.OutFfnIdeal.τ).loc Cert.OutFfnIdeal.main_arg10) = m ((c.tc : Thread Cert.OutFfnIdeal.nD Cert.OutFfnIdeal.τ).loc Cert.OutFfnIdeal.main_arg10))
      ∧ r.2.sem = fun _ => 0)

def quiescent_OutFfnRefIdeal [hOutFfnRefIdeal : Cert.OutFfnRefIdeal.Facts] : Prop :=
  ∀ (m : (ℓ : Loc Cert.OutFfnRefIdeal.nD Cert.OutFfnRefIdeal.τ Cert.OutFfnRefIdeal.sig) → Buf (Elt Ideal) ℓ) (g : Dev Cert.OutFfnRefIdeal.nD → PrngReg), Pre_OutFfnRefIdeal m →
    θ_run (Cert.OutFfnRefIdeal.defs (F := Ideal)) (onTc (τ := Cert.OutFfnRefIdeal.τ) (Cert.OutFfnRefIdeal.main (F := Ideal))) ⟨m, fun _ => 0, g⟩ (fun r => (∀ c : Dev Cert.OutFfnRefIdeal.nD,
      r.2.mem ((c.tc : Thread Cert.OutFfnRefIdeal.nD Cert.OutFfnRefIdeal.τ).loc Cert.OutFfnRefIdeal.main_arg0) = m ((c.tc : Thread Cert.OutFfnRefIdeal.nD Cert.OutFfnRefIdeal.τ).loc Cert.OutFfnRefIdeal.main_arg0)
      ∧ r.2.mem ((c.tc : Thread Cert.OutFfnRefIdeal.nD Cert.OutFfnRefIdeal.τ).loc Cert.OutFfnRefIdeal.main_arg1) = m ((c.tc : Thread Cert.OutFfnRefIdeal.nD Cert.OutFfnRefIdeal.τ).loc Cert.OutFfnRefIdeal.main_arg1)
      ∧ r.2.mem ((c.tc : Thread Cert.OutFfnRefIdeal.nD Cert.OutFfnRefIdeal.τ).loc Cert.OutFfnRefIdeal.main_arg2) = m ((c.tc : Thread Cert.OutFfnRefIdeal.nD Cert.OutFfnRefIdeal.τ).loc Cert.OutFfnRefIdeal.main_arg2)
      ∧ r.2.mem ((c.tc : Thread Cert.OutFfnRefIdeal.nD Cert.OutFfnRefIdeal.τ).loc Cert.OutFfnRefIdeal.main_arg3) = m ((c.tc : Thread Cert.OutFfnRefIdeal.nD Cert.OutFfnRefIdeal.τ).loc Cert.OutFfnRefIdeal.main_arg3)
      ∧ r.2.mem ((c.tc : Thread Cert.OutFfnRefIdeal.nD Cert.OutFfnRefIdeal.τ).loc Cert.OutFfnRefIdeal.main_arg4) = m ((c.tc : Thread Cert.OutFfnRefIdeal.nD Cert.OutFfnRefIdeal.τ).loc Cert.OutFfnRefIdeal.main_arg4)
      ∧ r.2.mem ((c.tc : Thread Cert.OutFfnRefIdeal.nD Cert.OutFfnRefIdeal.τ).loc Cert.OutFfnRefIdeal.main_arg5) = m ((c.tc : Thread Cert.OutFfnRefIdeal.nD Cert.OutFfnRefIdeal.τ).loc Cert.OutFfnRefIdeal.main_arg5)
      ∧ r.2.mem ((c.tc : Thread Cert.OutFfnRefIdeal.nD Cert.OutFfnRefIdeal.τ).loc Cert.OutFfnRefIdeal.main_arg6) = m ((c.tc : Thread Cert.OutFfnRefIdeal.nD Cert.OutFfnRefIdeal.τ).loc Cert.OutFfnRefIdeal.main_arg6)
      ∧ r.2.mem ((c.tc : Thread Cert.OutFfnRefIdeal.nD Cert.OutFfnRefIdeal.τ).loc Cert.OutFfnRefIdeal.main_arg7) = m ((c.tc : Thread Cert.OutFfnRefIdeal.nD Cert.OutFfnRefIdeal.τ).loc Cert.OutFfnRefIdeal.main_arg7)
      ∧ r.2.mem ((c.tc : Thread Cert.OutFfnRefIdeal.nD Cert.OutFfnRefIdeal.τ).loc Cert.OutFfnRefIdeal.main_arg8) = m ((c.tc : Thread Cert.OutFfnRefIdeal.nD Cert.OutFfnRefIdeal.τ).loc Cert.OutFfnRefIdeal.main_arg8)
      ∧ r.2.mem ((c.tc : Thread Cert.OutFfnRefIdeal.nD Cert.OutFfnRefIdeal.τ).loc Cert.OutFfnRefIdeal.main_arg9) = m ((c.tc : Thread Cert.OutFfnRefIdeal.nD Cert.OutFfnRefIdeal.τ).loc Cert.OutFfnRefIdeal.main_arg9)
      ∧ r.2.mem ((c.tc : Thread Cert.OutFfnRefIdeal.nD Cert.OutFfnRefIdeal.τ).loc Cert.OutFfnRefIdeal.main_arg10) = m ((c.tc : Thread Cert.OutFfnRefIdeal.nD Cert.OutFfnRefIdeal.τ).loc Cert.OutFfnRefIdeal.main_arg10))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5)
      ∧ r.2.mem ((c.tc : Thread Cert.FfnIn.nD Cert.FfnIn.τ).loc Cert.FfnIn.main_arg6) = m ((c.tc : Thread Cert.FfnIn.nD Cert.FfnIn.τ).loc Cert.FfnIn.main_arg6)
      ∧ r.2.mem ((c.tc : Thread Cert.FfnIn.nD Cert.FfnIn.τ).loc Cert.FfnIn.main_arg7) = m ((c.tc : Thread Cert.FfnIn.nD Cert.FfnIn.τ).loc Cert.FfnIn.main_arg7)
      ∧ r.2.mem ((c.tc : Thread Cert.FfnIn.nD Cert.FfnIn.τ).loc Cert.FfnIn.main_arg8) = m ((c.tc : Thread Cert.FfnIn.nD Cert.FfnIn.τ).loc Cert.FfnIn.main_arg8)
      ∧ r.2.mem ((c.tc : Thread Cert.FfnIn.nD Cert.FfnIn.τ).loc Cert.FfnIn.main_arg9) = m ((c.tc : Thread Cert.FfnIn.nD Cert.FfnIn.τ).loc Cert.FfnIn.main_arg9)
      ∧ r.2.mem ((c.tc : Thread Cert.FfnIn.nD Cert.FfnIn.τ).loc Cert.FfnIn.main_arg10) = m ((c.tc : Thread Cert.FfnIn.nD Cert.FfnIn.τ).loc Cert.FfnIn.main_arg10))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
      ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7)
      ∧ r.2.mem ((c.tc : Thread Cert.FfnInIdeal.nD Cert.FfnInIdeal.τ).loc Cert.FfnInIdeal.main_arg8) = m ((c.tc : Thread Cert.FfnInIdeal.nD Cert.FfnInIdeal.τ).loc Cert.FfnInIdeal.main_arg8)
      ∧ r.2.mem ((c.tc : Thread Cert.FfnInIdeal.nD Cert.FfnInIdeal.τ).loc Cert.FfnInIdeal.main_arg9) = m ((c.tc : Thread Cert.FfnInIdeal.nD Cert.FfnInIdeal.τ).loc Cert.FfnInIdeal.main_arg9)
      ∧ r.2.mem ((c.tc : Thread Cert.FfnInIdeal.nD Cert.FfnInIdeal.τ).loc Cert.FfnInIdeal.main_arg10) = m ((c.tc : Thread Cert.FfnInIdeal.nD Cert.FfnInIdeal.τ).loc Cert.FfnInIdeal.main_arg10))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6)
      ∧ r.2.mem ((c.tc : Thread Cert.FfnInRefIdeal.nD Cert.FfnInRefIdeal.τ).loc Cert.FfnInRefIdeal.main_arg7) = m ((c.tc : Thread Cert.FfnInRefIdeal.nD Cert.FfnInRefIdeal.τ).loc Cert.FfnInRefIdeal.main_arg7)
      ∧ r.2.mem ((c.tc : Thread Cert.FfnInRefIdeal.nD Cert.FfnInRefIdeal.τ).loc Cert.FfnInRefIdeal.main_arg8) = m ((c.tc : Thread Cert.FfnInRefIdeal.nD Cert.FfnInRefIdeal.τ).loc Cert.FfnInRefIdeal.main_arg8)
      ∧ r.2.mem ((c.tc : Thread Cert.FfnInRefIdeal.nD Cert.FfnInRefIdeal.τ).loc Cert.FfnInRefIdeal.main_arg9) = m ((c.tc : Thread Cert.FfnInRefIdeal.nD Cert.FfnInRefIdeal.τ).loc Cert.FfnInRefIdeal.main_arg9)
      ∧ r.2.mem ((c.tc : Thread Cert.FfnInRefIdeal.nD Cert.FfnInRefIdeal.τ).loc Cert.FfnInRefIdeal.main_arg10) = m ((c.tc : Thread Cert.FfnInRefIdeal.nD Cert.FfnInRefIdeal.τ).loc Cert.FfnInRefIdeal.main_arg10))
      ∧ r.2.sem = fun _ => 0)

def preserves_OutFfn_OutFfnIdeal : Prop :=
  True

def algebraic_OutFfnIdeal_OutFfnRefIdeal [hOutFfnIdeal : Cert.OutFfnIdeal.Facts] [hOutFfnRefIdeal : Cert.OutFfnRefIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg)
    (m' : (ℓ : Loc Cert.OutFfnRefIdeal.nD Cert.OutFfnRefIdeal.τ Cert.OutFfnRefIdeal.sig) → Buf (Elt Ideal) ℓ) (g' : Dev Cert.OutFfnRefIdeal.nD → PrngReg), Pre_OutFfnIdeal m →
    (∀ c : Dev Cert.OutFfnIdeal.nD,
      m' ((c.tc : Thread Cert.OutFfnRefIdeal.nD Cert.OutFfnRefIdeal.τ).loc Cert.OutFfnRefIdeal.main_arg0) = m ((c.tc : Thread Cert.OutFfnIdeal.nD Cert.OutFfnIdeal.τ).loc Cert.OutFfnIdeal.main_arg0)
      ∧ m' ((c.tc : Thread Cert.OutFfnRefIdeal.nD Cert.OutFfnRefIdeal.τ).loc Cert.OutFfnRefIdeal.main_arg1) = m ((c.tc : Thread Cert.OutFfnIdeal.nD Cert.OutFfnIdeal.τ).loc Cert.OutFfnIdeal.main_arg1)
      ∧ m' ((c.tc : Thread Cert.OutFfnRefIdeal.nD Cert.OutFfnRefIdeal.τ).loc Cert.OutFfnRefIdeal.main_arg2) = m ((c.tc : Thread Cert.OutFfnIdeal.nD Cert.OutFfnIdeal.τ).loc Cert.OutFfnIdeal.main_arg2)
      ∧ m' ((c.tc : Thread Cert.OutFfnRefIdeal.nD Cert.OutFfnRefIdeal.τ).loc Cert.OutFfnRefIdeal.main_arg3) = m ((c.tc : Thread Cert.OutFfnIdeal.nD Cert.OutFfnIdeal.τ).loc Cert.OutFfnIdeal.main_arg3)
      ∧ m' ((c.tc : Thread Cert.OutFfnRefIdeal.nD Cert.OutFfnRefIdeal.τ).loc Cert.OutFfnRefIdeal.main_arg4) = m ((c.tc : Thread Cert.OutFfnIdeal.nD Cert.OutFfnIdeal.τ).loc Cert.OutFfnIdeal.main_arg4)
      ∧ m' ((c.tc : Thread Cert.OutFfnRefIdeal.nD Cert.OutFfnRefIdeal.τ).loc Cert.OutFfnRefIdeal.main_arg5) = m ((c.tc : Thread Cert.OutFfnIdeal.nD Cert.OutFfnIdeal.τ).loc Cert.OutFfnIdeal.main_arg5)
      ∧ m' ((c.tc : Thread Cert.OutFfnRefIdeal.nD Cert.OutFfnRefIdeal.τ).loc Cert.OutFfnRefIdeal.main_arg6) = m ((c.tc : Thread Cert.OutFfnIdeal.nD Cert.OutFfnIdeal.τ).loc Cert.OutFfnIdeal.main_arg6)
      ∧ m' ((c.tc : Thread Cert.OutFfnRefIdeal.nD Cert.OutFfnRefIdeal.τ).loc Cert.OutFfnRefIdeal.main_arg7) = m ((c.tc : Thread Cert.OutFfnIdeal.nD Cert.OutFfnIdeal.τ).loc Cert.OutFfnIdeal.main_arg7)
      ∧ m' ((c.tc : Thread Cert.OutFfnRefIdeal.nD Cert.OutFfnRefIdeal.τ).loc Cert.OutFfnRefIdeal.main_arg8) = m ((c.tc : Thread Cert.OutFfnIdeal.nD Cert.OutFfnIdeal.τ).loc Cert.OutFfnIdeal.main_arg8)
      ∧ m' ((c.tc : Thread Cert.OutFfnRefIdeal.nD Cert.OutFfnRefIdeal.τ).loc Cert.OutFfnRefIdeal.main_arg9) = m ((c.tc : Thread Cert.OutFfnIdeal.nD Cert.OutFfnIdeal.τ).loc Cert.OutFfnIdeal.main_arg9)
      ∧ m' ((c.tc : Thread Cert.OutFfnRefIdeal.nD Cert.OutFfnRefIdeal.τ).loc Cert.OutFfnRefIdeal.main_arg10) = m ((c.tc : Thread Cert.OutFfnIdeal.nD Cert.OutFfnIdeal.τ).loc Cert.OutFfnIdeal.main_arg10)) →
    ∃ (v0 : (c : Dev Cert.OutFfnIdeal.nD) → Buf (Elt Ideal) ((c.tc : Thread Cert.OutFfnIdeal.nD Cert.OutFfnIdeal.τ).loc Cert.OutFfnIdeal.main_v22)),
      θ_run (Cert.OutFfnIdeal.defs (F := Ideal)) (onTc (τ := Cert.OutFfnIdeal.τ) (Cert.OutFfnIdeal.main (F := Ideal))) ⟨m, fun _ => 0, g⟩ (fun r => ∀ c : Dev Cert.OutFfnIdeal.nD,
          r.2.mem ((c.tc : Thread Cert.OutFfnIdeal.nD Cert.OutFfnIdeal.τ).loc Cert.OutFfnIdeal.main_v22) = v0 c
          ∧ r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
          ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
          ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
          ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
          ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
          ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
          ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
          ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7)
          ∧ r.2.mem ((c.tc : Thread Cert.OutFfnIdeal.nD Cert.OutFfnIdeal.τ).loc Cert.OutFfnIdeal.main_arg8) = m ((c.tc : Thread Cert.OutFfnIdeal.nD Cert.OutFfnIdeal.τ).loc Cert.OutFfnIdeal.main_arg8)
          ∧ r.2.mem ((c.tc : Thread Cert.OutFfnIdeal.nD Cert.OutFfnIdeal.τ).loc Cert.OutFfnIdeal.main_arg9) = m ((c.tc : Thread Cert.OutFfnIdeal.nD Cert.OutFfnIdeal.τ).loc Cert.OutFfnIdeal.main_arg9)
          ∧ r.2.mem ((c.tc : Thread Cert.OutFfnIdeal.nD Cert.OutFfnIdeal.τ).loc Cert.OutFfnIdeal.main_arg10) = m ((c.tc : Thread Cert.OutFfnIdeal.nD Cert.OutFfnIdeal.τ).loc Cert.OutFfnIdeal.main_arg10))
      ∧ θ_run (Cert.OutFfnRefIdeal.defs (F := Ideal)) (onTc (τ := Cert.OutFfnRefIdeal.τ) (Cert.OutFfnRefIdeal.main (F := Ideal))) ⟨m', fun _ => 0, g'⟩ (fun r => ∀ c : Dev Cert.OutFfnRefIdeal.nD,
          r.2.mem ((c.tc : Thread Cert.OutFfnRefIdeal.nD Cert.OutFfnRefIdeal.τ).loc Cert.OutFfnRefIdeal.main_v54) = v0 c
          ∧ r.2.mem ((c.tc : Thread Cert.OutFfnRefIdeal.nD Cert.OutFfnRefIdeal.τ).loc Cert.OutFfnRefIdeal.main_arg0) = m' ((c.tc : Thread Cert.OutFfnRefIdeal.nD Cert.OutFfnRefIdeal.τ).loc Cert.OutFfnRefIdeal.main_arg0)
          ∧ r.2.mem ((c.tc : Thread Cert.OutFfnRefIdeal.nD Cert.OutFfnRefIdeal.τ).loc Cert.OutFfnRefIdeal.main_arg1) = m' ((c.tc : Thread Cert.OutFfnRefIdeal.nD Cert.OutFfnRefIdeal.τ).loc Cert.OutFfnRefIdeal.main_arg1)
          ∧ r.2.mem ((c.tc : Thread Cert.OutFfnRefIdeal.nD Cert.OutFfnRefIdeal.τ).loc Cert.OutFfnRefIdeal.main_arg2) = m' ((c.tc : Thread Cert.OutFfnRefIdeal.nD Cert.OutFfnRefIdeal.τ).loc Cert.OutFfnRefIdeal.main_arg2)
          ∧ r.2.mem ((c.tc : Thread Cert.OutFfnRefIdeal.nD Cert.OutFfnRefIdeal.τ).loc Cert.OutFfnRefIdeal.main_arg3) = m' ((c.tc : Thread Cert.OutFfnRefIdeal.nD Cert.OutFfnRefIdeal.τ).loc Cert.OutFfnRefIdeal.main_arg3)
          ∧ r.2.mem ((c.tc : Thread Cert.OutFfnRefIdeal.nD Cert.OutFfnRefIdeal.τ).loc Cert.OutFfnRefIdeal.main_arg4) = m' ((c.tc : Thread Cert.OutFfnRefIdeal.nD Cert.OutFfnRefIdeal.τ).loc Cert.OutFfnRefIdeal.main_arg4)
          ∧ r.2.mem ((c.tc : Thread Cert.OutFfnRefIdeal.nD Cert.OutFfnRefIdeal.τ).loc Cert.OutFfnRefIdeal.main_arg5) = m' ((c.tc : Thread Cert.OutFfnRefIdeal.nD Cert.OutFfnRefIdeal.τ).loc Cert.OutFfnRefIdeal.main_arg5)
          ∧ r.2.mem ((c.tc : Thread Cert.OutFfnRefIdeal.nD Cert.OutFfnRefIdeal.τ).loc Cert.OutFfnRefIdeal.main_arg6) = m' ((c.tc : Thread Cert.OutFfnRefIdeal.nD Cert.OutFfnRefIdeal.τ).loc Cert.OutFfnRefIdeal.main_arg6)
          ∧ r.2.mem ((c.tc : Thread Cert.OutFfnRefIdeal.nD Cert.OutFfnRefIdeal.τ).loc Cert.OutFfnRefIdeal.main_arg7) = m' ((c.tc : Thread Cert.OutFfnRefIdeal.nD Cert.OutFfnRefIdeal.τ).loc Cert.OutFfnRefIdeal.main_arg7)
          ∧ r.2.mem ((c.tc : Thread Cert.OutFfnRefIdeal.nD Cert.OutFfnRefIdeal.τ).loc Cert.OutFfnRefIdeal.main_arg8) = m' ((c.tc : Thread Cert.OutFfnRefIdeal.nD Cert.OutFfnRefIdeal.τ).loc Cert.OutFfnRefIdeal.main_arg8)
          ∧ r.2.mem ((c.tc : Thread Cert.OutFfnRefIdeal.nD Cert.OutFfnRefIdeal.τ).loc Cert.OutFfnRefIdeal.main_arg9) = m' ((c.tc : Thread Cert.OutFfnRefIdeal.nD Cert.OutFfnRefIdeal.τ).loc Cert.OutFfnRefIdeal.main_arg9)
          ∧ r.2.mem ((c.tc : Thread Cert.OutFfnRefIdeal.nD Cert.OutFfnRefIdeal.τ).loc Cert.OutFfnRefIdeal.main_arg10) = m' ((c.tc : Thread Cert.OutFfnRefIdeal.nD Cert.OutFfnRefIdeal.τ).loc Cert.OutFfnRefIdeal.main_arg10))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)
      ∧ m' ((c.tc : Thread Cert.FfnInRefIdeal.nD Cert.FfnInRefIdeal.τ).loc Cert.FfnInRefIdeal.main_arg6) = m ((c.tc : Thread Cert.FfnInIdeal.nD Cert.FfnInIdeal.τ).loc Cert.FfnInIdeal.main_arg6)
      ∧ m' ((c.tc : Thread Cert.FfnInRefIdeal.nD Cert.FfnInRefIdeal.τ).loc Cert.FfnInRefIdeal.main_arg7) = m ((c.tc : Thread Cert.FfnInIdeal.nD Cert.FfnInIdeal.τ).loc Cert.FfnInIdeal.main_arg7)
      ∧ m' ((c.tc : Thread Cert.FfnInRefIdeal.nD Cert.FfnInRefIdeal.τ).loc Cert.FfnInRefIdeal.main_arg8) = m ((c.tc : Thread Cert.FfnInIdeal.nD Cert.FfnInIdeal.τ).loc Cert.FfnInIdeal.main_arg8)
      ∧ m' ((c.tc : Thread Cert.FfnInRefIdeal.nD Cert.FfnInRefIdeal.τ).loc Cert.FfnInRefIdeal.main_arg9) = m ((c.tc : Thread Cert.FfnInIdeal.nD Cert.FfnInIdeal.τ).loc Cert.FfnInIdeal.main_arg9)
      ∧ m' ((c.tc : Thread Cert.FfnInRefIdeal.nD Cert.FfnInRefIdeal.τ).loc Cert.FfnInRefIdeal.main_arg10) = m ((c.tc : Thread Cert.FfnInIdeal.nD Cert.FfnInIdeal.τ).loc Cert.FfnInIdeal.main_arg10)) →
    ∃ (v0 : (c : Dev Cert.FfnInIdeal.nD) → Buf (Elt Ideal) ((c.tc : Thread Cert.FfnInIdeal.nD Cert.FfnInIdeal.τ).loc Cert.FfnInIdeal.main_v17_0)) (v1 : (c : Dev Cert.FfnInIdeal.nD) → Buf (Elt Ideal) ((c.tc : Thread Cert.FfnInIdeal.nD Cert.FfnInIdeal.τ).loc Cert.FfnInIdeal.main_v20)) (v2 : (c : Dev Cert.FfnInIdeal.nD) → Buf (Elt Ideal) ((c.tc : Thread Cert.FfnInIdeal.nD Cert.FfnInIdeal.τ).loc Cert.FfnInIdeal.main_v23)) (v3 : (c : Dev Cert.FfnInIdeal.nD) → Buf (Elt Ideal) ((c.tc : Thread Cert.FfnInIdeal.nD Cert.FfnInIdeal.τ).loc Cert.FfnInIdeal.main_v17_3)) (v4 : (c : Dev Cert.FfnInIdeal.nD) → Buf (Elt Ideal) ((c.tc : Thread Cert.FfnInIdeal.nD Cert.FfnInIdeal.τ).loc Cert.FfnInIdeal.main_v17_4)) (v5 : (c : Dev Cert.FfnInIdeal.nD) → Buf (Elt Ideal) ((c.tc : Thread Cert.FfnInIdeal.nD Cert.FfnInIdeal.τ).loc Cert.FfnInIdeal.main_v17_5)) (v6 : (c : Dev Cert.FfnInIdeal.nD) → Buf (Elt Ideal) ((c.tc : Thread Cert.FfnInIdeal.nD Cert.FfnInIdeal.τ).loc Cert.FfnInIdeal.main_v17_6)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v17_0) = v0 c
          ∧ r.2.mem ((c.tc : Thread Cert.FfnInIdeal.nD Cert.FfnInIdeal.τ).loc Cert.FfnInIdeal.main_v20) = v1 c
          ∧ r.2.mem ((c.tc : Thread Cert.FfnInIdeal.nD Cert.FfnInIdeal.τ).loc Cert.FfnInIdeal.main_v23) = v2 c
          ∧ r.2.mem ((c.tc : Thread Cert.FfnInIdeal.nD Cert.FfnInIdeal.τ).loc Cert.FfnInIdeal.main_v17_3) = v3 c
          ∧ r.2.mem ((c.tc : Thread Cert.FfnInIdeal.nD Cert.FfnInIdeal.τ).loc Cert.FfnInIdeal.main_v17_4) = v4 c
          ∧ r.2.mem ((c.tc : Thread Cert.FfnInIdeal.nD Cert.FfnInIdeal.τ).loc Cert.FfnInIdeal.main_v17_5) = v5 c
          ∧ r.2.mem ((c.tc : Thread Cert.FfnInIdeal.nD Cert.FfnInIdeal.τ).loc Cert.FfnInIdeal.main_v17_6) = v6 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
          ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
          ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7)
          ∧ r.2.mem ((c.tc : Thread Cert.FfnInIdeal.nD Cert.FfnInIdeal.τ).loc Cert.FfnInIdeal.main_arg8) = m ((c.tc : Thread Cert.FfnInIdeal.nD Cert.FfnInIdeal.τ).loc Cert.FfnInIdeal.main_arg8)
          ∧ r.2.mem ((c.tc : Thread Cert.FfnInIdeal.nD Cert.FfnInIdeal.τ).loc Cert.FfnInIdeal.main_arg9) = m ((c.tc : Thread Cert.FfnInIdeal.nD Cert.FfnInIdeal.τ).loc Cert.FfnInIdeal.main_arg9)
          ∧ r.2.mem ((c.tc : Thread Cert.FfnInIdeal.nD Cert.FfnInIdeal.τ).loc Cert.FfnInIdeal.main_arg10) = m ((c.tc : Thread Cert.FfnInIdeal.nD Cert.FfnInIdeal.τ).loc Cert.FfnInIdeal.main_arg10))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v24) = v0 c
          ∧ r.2.mem ((c.tc : Thread Cert.FfnInRefIdeal.nD Cert.FfnInRefIdeal.τ).loc Cert.FfnInRefIdeal.main_v51) = v1 c
          ∧ r.2.mem ((c.tc : Thread Cert.FfnInRefIdeal.nD Cert.FfnInRefIdeal.τ).loc Cert.FfnInRefIdeal.main_v50) = v2 c
          ∧ r.2.mem ((c.tc : Thread Cert.FfnInRefIdeal.nD Cert.FfnInRefIdeal.τ).loc Cert.FfnInRefIdeal.main_v53) = v3 c
          ∧ r.2.mem ((c.tc : Thread Cert.FfnInRefIdeal.nD Cert.FfnInRefIdeal.τ).loc Cert.FfnInRefIdeal.main_v55) = v4 c
          ∧ r.2.mem ((c.tc : Thread Cert.FfnInRefIdeal.nD Cert.FfnInRefIdeal.τ).loc Cert.FfnInRefIdeal.main_v57) = v5 c
          ∧ r.2.mem ((c.tc : Thread Cert.FfnInRefIdeal.nD Cert.FfnInRefIdeal.τ).loc Cert.FfnInRefIdeal.main_v59) = v6 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5)
          ∧ r.2.mem ((c.tc : Thread Cert.FfnInRefIdeal.nD Cert.FfnInRefIdeal.τ).loc Cert.FfnInRefIdeal.main_arg6) = m' ((c.tc : Thread Cert.FfnInRefIdeal.nD Cert.FfnInRefIdeal.τ).loc Cert.FfnInRefIdeal.main_arg6)
          ∧ r.2.mem ((c.tc : Thread Cert.FfnInRefIdeal.nD Cert.FfnInRefIdeal.τ).loc Cert.FfnInRefIdeal.main_arg7) = m' ((c.tc : Thread Cert.FfnInRefIdeal.nD Cert.FfnInRefIdeal.τ).loc Cert.FfnInRefIdeal.main_arg7)
          ∧ r.2.mem ((c.tc : Thread Cert.FfnInRefIdeal.nD Cert.FfnInRefIdeal.τ).loc Cert.FfnInRefIdeal.main_arg8) = m' ((c.tc : Thread Cert.FfnInRefIdeal.nD Cert.FfnInRefIdeal.τ).loc Cert.FfnInRefIdeal.main_arg8)
          ∧ r.2.mem ((c.tc : Thread Cert.FfnInRefIdeal.nD Cert.FfnInRefIdeal.τ).loc Cert.FfnInRefIdeal.main_arg9) = m' ((c.tc : Thread Cert.FfnInRefIdeal.nD Cert.FfnInRefIdeal.τ).loc Cert.FfnInRefIdeal.main_arg9)
          ∧ r.2.mem ((c.tc : Thread Cert.FfnInRefIdeal.nD Cert.FfnInRefIdeal.τ).loc Cert.FfnInRefIdeal.main_arg10) = m' ((c.tc : Thread Cert.FfnInRefIdeal.nD Cert.FfnInRefIdeal.τ).loc Cert.FfnInRefIdeal.main_arg10))

def Claim : Prop :=
  ∃ (hOutFfn : Cert.OutFfn.Facts) (hOutFfnIdeal : Cert.OutFfnIdeal.Facts) (hOutFfnRefIdeal : Cert.OutFfnRefIdeal.Facts) (hFfnIn : Cert.FfnIn.Facts) (hFfnInIdeal : Cert.FfnInIdeal.Facts) (hFfnInRefIdeal : Cert.FfnInRefIdeal.Facts),
    quiescent_OutFfn (hOutFfn := hOutFfn)
    ∧ quiescent_OutFfnIdeal (hOutFfnIdeal := hOutFfnIdeal)
    ∧ quiescent_OutFfnRefIdeal (hOutFfnRefIdeal := hOutFfnRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ preserves_OutFfn_OutFfnIdeal
    ∧ algebraic_OutFfnIdeal_OutFfnRefIdeal (hOutFfnIdeal := hOutFfnIdeal) (hOutFfnRefIdeal := hOutFfnRefIdeal)
    ∧ preserves_FfnIn_FfnInIdeal
    ∧ algebraic_FfnInIdeal_FfnInRefIdeal (hFfnInIdeal := hFfnInIdeal) (hFfnInRefIdeal := hFfnInRefIdeal)
-- ==== OutFfn.lean ====
abbrev S8x4096x1024 : Shape := ⟨3, ![8, 4096, 1024]⟩
abbrev S8x4096x512 : Shape := ⟨3, ![8, 4096, 512]⟩
abbrev S1x512x512 : Shape := ⟨3, ![1, 512, 512]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S8x32x128x512 : Shape := ⟨4, ![8, 32, 128, 512]⟩
abbrev S512x32x8x128 : Shape := ⟨4, ![512, 32, 8, 128]⟩
abbrev S512x256x128 : Shape := ⟨3, ![512, 256, 128]⟩
abbrev S512x512 : Shape := ⟨2, ![512, 512]⟩
abbrev S512 : Shape := ⟨1, ![512]⟩
abbrev S512x1 : Shape := ⟨2, ![512, 1]⟩
abbrev S1024x1024 : Shape := ⟨2, ![1024, 1024]⟩
abbrev S1024x2816 : Shape := ⟨2, ![1024, 2816]⟩
abbrev S2816x1024 : Shape := ⟨2, ![2816, 1024]⟩
abbrev S8x128x1024 : Shape := ⟨3, ![8, 128, 1024]⟩
abbrev S512x8x128 : Shape := ⟨3, ![512, 8, 128]⟩
abbrev S4096x128 : Shape := ⟨2, ![4096, 128]⟩
abbrev S8x128 : Shape := ⟨2, ![8, 128]⟩
abbrev S8x1024 : Shape := ⟨2, ![8, 1024]⟩
abbrev S512x1024 : Shape := ⟨2, ![512, 1024]⟩
abbrev S1024x1 : Shape := ⟨2, ![1024, 1]⟩
abbrev S1024x1536 : Shape := ⟨2, ![1024, 1536]⟩
abbrev S1536x1024 : Shape := ⟨2, ![1536, 1024]⟩
abbrev S1024x1280 : Shape := ⟨2, ![1024, 1280]⟩
abbrev S1280x1024 : Shape := ⟨2, ![1280, 1024]⟩

abbrev nBuf : Space → Nat
  | .hbm => 34
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S1x512x512, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S1024, .f32⟩
  | .hbm, ⟨11, _⟩ => ⟨S8x32x128x512, .f32⟩
  | .hbm, ⟨12, _⟩ => ⟨S512x32x8x128, .f32⟩
  | .hbm, ⟨13, _⟩ => ⟨S512x256x128, .f32⟩
  | .hbm, ⟨14, _⟩ => ⟨S8x32x128x512, .f32⟩
  | .hbm, ⟨15, _⟩ => ⟨S512x32x8x128, .f32⟩
  | .hbm, ⟨16, _⟩ => ⟨S512x256x128, .f32⟩
  | .hbm, ⟨17, _⟩ => ⟨S512x512, .f32⟩
  | .hbm, ⟨18, _⟩ => ⟨S512x512, .f32⟩
  | .hbm, ⟨19, _⟩ => ⟨S512x512, .bf16⟩
  | .hbm, ⟨20, _⟩ => ⟨S512, .f32⟩
  | .hbm, ⟨21, _⟩ => ⟨S512x1, .f32⟩
  | .hbm, ⟨22, _⟩ => ⟨S1024x1024, .f32⟩
  | .hbm, ⟨23, _⟩ => ⟨S1024x1024, .bf16⟩
  | .hbm, ⟨24, _⟩ => ⟨S1024, .f32⟩
  | .hbm, ⟨25, _⟩ => ⟨S1x1024, .f32⟩
  | .hbm, ⟨26, _⟩ => ⟨S1024x2816, .f32⟩
  | .hbm, ⟨27, _⟩ => ⟨S1024x2816, .bf16⟩
  | .hbm, ⟨28, _⟩ => ⟨S1024x2816, .f32⟩
  | .hbm, ⟨29, _⟩ => ⟨S1024x2816, .bf16⟩
  | .hbm, ⟨30, _⟩ => ⟨S2816x1024, .f32⟩
  | .hbm, ⟨31, _⟩ => ⟨S2816x1024, .bf16⟩
  | .hbm, ⟨32, _⟩ => ⟨S1x1024, .f32⟩
  | .hbm, ⟨33, _⟩ => ⟨S8x4096x1024, .f32⟩
  | .local _ .vmem, ⟨0, _⟩ => ⟨S8x128x1024, .f32⟩
  | .local _ .vmem, ⟨1, _⟩ => ⟨S8x128x1024, .f32⟩
  | .local _ .vmem, ⟨2, _⟩ => ⟨S512x8x128, .f32⟩
  | .local _ .vmem, ⟨3, _⟩ => ⟨S512x8x128, .f32⟩
  | .local _ .vmem, ⟨4, _⟩ => ⟨S512x8x128, .f32⟩
  | .local _ .vmem, ⟨5, _⟩ => ⟨S512x8x128, .f32⟩
  | .local _ .vmem, ⟨6, _⟩ => ⟨S512x512, .bf16⟩
  | .local _ .vmem, ⟨7, _⟩ => ⟨S512x1, .f32⟩
  | .local _ .vmem, ⟨8, _⟩ => ⟨S1024x1024, .bf16⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x1024, .f32⟩
  | .local _ .vmem, ⟨14, _⟩ => ⟨S8x128x1024, .f32⟩
  | .local _ .vmem, ⟨15, _⟩ => ⟨S8x128x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![32, 1], ![false, false]⟩

def k0_off1 (i : grid0.Coords) (c0_i32 : BitVec 32) (c0_i32_0 : BitVec 32) : Fin 2 → Nat :=
  let arg1 : BitVec 32 := BitVec.ofNat 32 (i 1).val
  let c8_i32 : BitVec 32 := 8#32
  let v0 : BitVec 32 := Scalar.muli arg1 c8_i32
  let v1 : BitVec 32 := Scalar.addi c0_i32 v0
  let v2 : BitVec 32 := Scalar.addi v1 c0_i32_0
  let v4 : Index := Scalar.indexCast v2
  let c0 : Index := 0#32
  ![v4.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S8x128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== OutFfnRefIdeal.lean ====
abbrev S8x4096x1024 : Shape := ⟨3, ![8, 4096, 1024]⟩
abbrev S8x4096x512 : Shape := ⟨3, ![8, 4096, 512]⟩
abbrev S1x512x512 : Shape := ⟨3, ![1, 512, 512]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S512x512 : Shape := ⟨2, ![512, 512]⟩
abbrev S512 : Shape := ⟨1, ![512]⟩
abbrev S1x1x512 : Shape := ⟨3, ![1, 1, 512]⟩
abbrev S_ : Shape := ⟨0, ![]⟩
abbrev S1024x1024 : Shape := ⟨2, ![1024, 1024]⟩
abbrev S8x4096 : Shape := ⟨2, ![8, 4096]⟩
abbrev S8x4096x1 : Shape := ⟨3, ![8, 4096, 1]⟩
abbrev S1x1x1024 : Shape := ⟨3, ![1, 1, 1024]⟩
abbrev S1024x2816 : Shape := ⟨2, ![1024, 2816]⟩
abbrev S2816x1024 : Shape := ⟨2, ![2816, 1024]⟩
abbrev S8x4096x2816 : Shape := ⟨3, ![8, 4096, 2816]⟩

abbrev nBuf : Space → Nat
  | .hbm => 83
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S1x512x512, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S1024, .f32⟩
  | .hbm, ⟨11, _⟩ => ⟨S512x512, .f32⟩
  | .hbm, ⟨12, _⟩ => ⟨S8x4096x512, .f32⟩
  | .hbm, ⟨13, _⟩ => ⟨S512, .f32⟩
  | .hbm, ⟨14, _⟩ => ⟨S1x1x512, .f32⟩
  | .hbm, ⟨15, _⟩ => ⟨S8x4096x512, .f32⟩
  | .hbm, ⟨16, _⟩ => ⟨S8x4096x512, .f32⟩
  | .hbm, ⟨17, _⟩ => ⟨S8x4096x512, .f32⟩
  | .hbm, ⟨18, _⟩ => ⟨S8x4096x512, .f32⟩
  | .hbm, ⟨19, _⟩ => ⟨S_, .f32⟩
  | .hbm, ⟨20, _⟩ => ⟨S8x4096x512, .f32⟩
  | .hbm, ⟨21, _⟩ => ⟨S8x4096x512, .f32⟩
  | .hbm, ⟨22, _⟩ => ⟨S_, .f32⟩
  | .hbm, ⟨23, _⟩ => ⟨S8x4096x512, .f32⟩
  | .hbm, ⟨24, _⟩ => ⟨S8x4096x512, .f32⟩
  | .hbm, ⟨25, _⟩ => ⟨S8x4096x512, .f32⟩
  | .hbm, ⟨26, _⟩ => ⟨S8x4096x1024, .f32⟩
  | .hbm, ⟨27, _⟩ => ⟨S1024x1024, .f32⟩
  | .hbm, ⟨28, _⟩ => ⟨S8x4096x1024, .f32⟩
  | .hbm, ⟨29, _⟩ => ⟨S8x4096x1024, .f32⟩
  | .hbm, ⟨30, _⟩ => ⟨S1024, .f32⟩
  | .hbm, ⟨31, _⟩ => ⟨S8x4096x1024, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S8x4096x1, .f32⟩
  | .hbm, ⟨42, _⟩ => ⟨S8x4096x1024, .f32⟩
  | .hbm, ⟨43, _⟩ => ⟨S8x4096x1024, .f32⟩
  | .hbm, ⟨44, _⟩ => ⟨S1x1x1024, .f32⟩
  | .hbm, ⟨45, _⟩ => ⟨S8x4096x1024, .f32⟩
  | .hbm, ⟨46, _⟩ => ⟨S8x4096x1024, .f32⟩
  | .hbm, ⟨47, _⟩ => ⟨S1024x2816, .f32⟩
  | .hbm, ⟨48, _⟩ => ⟨S1024x2816, .f32⟩
  | .hbm, ⟨49, _⟩ => ⟨S2816x1024, .f32⟩
  | .hbm, ⟨50, _⟩ => ⟨S8x4096x2816, .f32⟩
  | .hbm, ⟨51, _⟩ => ⟨S8x4096x2816, .f32⟩
  | .hbm, ⟨52, _⟩ => ⟨S8x4096x2816, .f32⟩
  | .hbm, ⟨53, _⟩ => ⟨S_, .f32⟩
  | .hbm, ⟨54, _⟩ => ⟨S8x4096x2816, .f32⟩
  | .hbm, ⟨55, _⟩ => ⟨S8x4096x2816, .f32⟩
  | .hbm, ⟨56, _⟩ => ⟨S_, .f32⟩
  | .hbm, ⟨57, _⟩ => ⟨S8x4096x2816, .f32⟩
  | .hbm, ⟨58, _⟩ => ⟨S8x4096x2816, .f32⟩
  | .hbm, ⟨59, _⟩ => ⟨S8x4096x2816, .f32⟩
  | .hbm, ⟨60, _⟩ => ⟨S8x4096x2816, .f32⟩
  | .hbm, ⟨61, _⟩ => ⟨S8x4096x2816, .f32⟩
  | .hbm, ⟨62, _⟩ => ⟨S8x4096x1024, .f32⟩
  | .hbm, ⟨63, _⟩ => ⟨S_, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | .hbm, ⟨68, _⟩ => ⟨S_, .f32⟩
  | .hbm, ⟨69, _⟩ => ⟨S8x4096, .f32⟩
  | .hbm, ⟨70, _⟩ => ⟨S8x4096x1, .f32⟩
  | .hbm, ⟨71, _⟩ => ⟨S_, .f32⟩
  | .hbm, ⟨72, _⟩ => ⟨S8x4096x1, .f32⟩
  | .hbm, ⟨73, _⟩ => ⟨S8x4096x1, .f32⟩
  | .hbm, ⟨74, _⟩ => ⟨S_, .f32⟩
  | .hbm, ⟨75, _⟩ => ⟨S8x4096x1, .f32⟩
  | .hbm, ⟨76, _⟩ => ⟨S8x4096x1, .f32⟩
  | .hbm, ⟨77, _⟩ => ⟨S8x4096x1, .f32⟩
  | .hbm, ⟨78, _⟩ => ⟨S8x4096x1024, .f32⟩
  | .hbm, ⟨79, _⟩ => ⟨S8x4096x1024, .f32⟩
  | .hbm, ⟨80, _⟩ => ⟨S1x1x1024, .f32⟩
  | .hbm, ⟨81, _⟩ => ⟨S8x4096x1024, .f32⟩
  | .hbm, ⟨82, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_4 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩

abbrev nD : Nat := 1
abbrev τ : Topo := Topo.v7x

variable {F : FTy → Type} [FloatOps F]
-- ==== FfnIn.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x1536 : Shape := ⟨3, ![1, 1024, 1536]⟩
abbrev S1x1024x1024 : Shape := ⟨3, ![1, 1024, 1024]⟩
abbrev S1024 : Shape := ⟨1, ![1024]⟩
abbrev S1024x2816 : Shape := ⟨2, ![1024, 2816]⟩
abbrev S2816x1024 : Shape := ⟨2, ![2816, 1024]⟩
abbrev S1024x1536 : Shape := ⟨2, ![1024, 1536]⟩
abbrev S1536x1024 : Shape := ⟨2, ![1536, 1024]⟩
abbrev S1024x1024 : Shape := ⟨2, ![1024, 1024]⟩
abbrev S512x256x128 : Shape := ⟨3, ![512, 256, 128]⟩
abbrev S8x128x1024 : Shape := ⟨3, ![8, 128, 1024]⟩
abbrev S32x2816 : Shape := ⟨2, ![32, 2816]⟩
abbrev S176x1024 : Shape := ⟨2, ![176, 1024]⟩
abbrev S32x1024 : Shape := ⟨2, ![32, 1024]⟩
abbrev S512x8x128 : Shape := ⟨3, ![512, 8, 128]⟩
abbrev S1024x1 : Shape := ⟨2, ![1024, 1]⟩
abbrev S1024x1280 : Shape := ⟨2, ![1024, 1280]⟩
abbrev S1280x1024 : Shape := ⟨2, ![1280, 1024]⟩
abbrev S1024x128 : Shape := ⟨2, ![1024, 128]⟩
abbrev S128x1024 : Shape := ⟨2, ![128, 1024]⟩
abbrev S512x1024 : Shape := ⟨2, ![512, 1024]⟩
abbrev S8x128 : Shape := ⟨2, ![8, 128]⟩
abbrev S4096x128 : Shape := ⟨2, ![4096, 128]⟩
abbrev S512x32x8x128 : Shape := ⟨4, ![512, 32, 8, 128]⟩
abbrev S8x32x128x512 : Shape := ⟨4, ![8, 32, 128, 512]⟩
abbrev S8x4096x512 : Shape := ⟨3, ![8, 4096, 512]⟩

abbrev nBuf : Space → Nat
  | .hbm => 41
  | .vmem => 30
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1x1024x1536, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S1x1024x1024, .f32⟩
  | .hbm, ⟨11, _⟩ => ⟨S1024, .f32⟩
  | .hbm, ⟨12, _⟩ => ⟨S1x1024, .f32⟩
  | .hbm, ⟨13, _⟩ => ⟨S1024x2816, .f32⟩
  | .hbm, ⟨14, _⟩ => ⟨S1024x2816, .bf16⟩
  | .hbm, ⟨15, _⟩ => ⟨S1024x2816, .f32⟩
  | .hbm, ⟨16, _⟩ => ⟨S1024x2816, .bf16⟩
  | .hbm, ⟨17, _⟩ => ⟨S2816x1024, .f32⟩
  | .hbm, ⟨18, _⟩ => ⟨S2816x1024, .bf16⟩
  | .hbm, ⟨19, _⟩ => ⟨S1024, .f32⟩
  | .hbm, ⟨20, _⟩ => ⟨S1x1024, .f32⟩
  | .hbm, ⟨21, _⟩ => ⟨S1024x1536, .f32⟩
  | .hbm, ⟨22, _⟩ => ⟨S1536x1024, .f32⟩
  | .hbm, ⟨23, _⟩ => ⟨S1536x1024, .bf16⟩
  | .hbm, ⟨24, _⟩ => ⟨S1024x2816, .f32⟩
  | .hbm, ⟨25, _⟩ => ⟨S1024x2816, .f32⟩
  | .hbm, ⟨26, _⟩ => ⟨S2816x1024, .f32⟩
  | .hbm, ⟨27, _⟩ => ⟨S1024x1024, .f32⟩
  | .hbm, ⟨28, _⟩ => ⟨S8x4096x1024, .f32⟩
  | .hbm, ⟨29, _⟩ => ⟨S512x256x128, .f32⟩
  | .hbm, ⟨30, _⟩ => ⟨S512x256x128, .f32⟩
  | .hbm, ⟨31, _⟩ => ⟨S1024x2816, .bf16⟩
  | .hbm, ⟨32, _⟩ => ⟨S1024x2816, .bf16⟩
  | .hbm, ⟨33, _⟩ => ⟨S2816x1024, .bf16⟩
  | .hbm, ⟨34, _⟩ => ⟨S1024x1024, .bf16⟩
  | .hbm, ⟨35, _⟩ => ⟨S512x32x8x128, .f32⟩
  | .hbm, ⟨36, _⟩ => ⟨S8x32x128x512, .f32⟩
  | .hbm, ⟨37, _⟩ => ⟨S8x4096x512, .f32⟩
  | .hbm, ⟨38, _⟩ => ⟨S512x32x8x128, .f32⟩
  | .hbm, ⟨39, _⟩ => ⟨S8x32x128x512, .f32⟩
  | .hbm, ⟨40, _⟩ => ⟨S8x4096x512, .f32⟩
  | .local _ .vmem, ⟨0, _⟩ => ⟨S8x128x1024, .f32⟩
  | .local _ .vmem, ⟨1, _⟩ => ⟨S8x128x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1536x1024, .bf16⟩
  | .local _ .vmem, ⟨8, _⟩ => ⟨S32x2816, .f32⟩
  | .local _ .vmem, ⟨9, _⟩ => ⟨S32x2816, .f32⟩
  | .local _ .vmem, ⟨10, _⟩ => ⟨S32x2816, .f32⟩
  | .local _ .vmem, ⟨11, _⟩ => ⟨S32x2816, .f32⟩
  | .local _ .vmem, ⟨12, _⟩ => ⟨S176x1024, .f32⟩
  | .local _ .vmem, ⟨13, _⟩ => ⟨S176x1024, .f32⟩
  | .local _ .vmem, ⟨14, _⟩ => ⟨S32x1024, .f32⟩
  | .local _ .vmem, ⟨15, _⟩ => ⟨S32x1024, .f32⟩
  | .local _ .vmem, ⟨16, _⟩ => ⟨S8x128x1024, .f32⟩
  | .local _ .vmem, ⟨17, _⟩ => ⟨S8x128x1024, .f32⟩
  | .local _ .vmem, ⟨18, _⟩ => ⟨S512x8x128, .f32⟩
  | .local _ .vmem, ⟨19, _⟩ => ⟨S512x8x128, .f32⟩
  | .local _ .vmem, ⟨20, _⟩ => ⟨S512x8x128, .f32⟩
  | .local _ .vmem, ⟨21, _⟩ => ⟨S512x8x128, .f32⟩
  | .local _ .vmem, ⟨22, _⟩ => ⟨S32x2816, .bf16⟩
  | .local _ .vmem, ⟨23, _⟩ => ⟨S32x2816, .bf16⟩
  | .local _ .vmem, ⟨24, _⟩ => ⟨S32x2816, .bf16⟩
  | .local _ .vmem, ⟨25, _⟩ => ⟨S32x2816, .bf16⟩
  | .local _ .vmem, ⟨26, _⟩ => ⟨S176x1024, .bf16⟩
  | .local _ .vmem, ⟨27, _⟩ => ⟨S176x1024, .bf16⟩
  | .local _ .vmem, ⟨28, _⟩ => ⟨S32x1024, .bf16⟩
  | .local _ .vmem, ⟨29, _⟩ => ⟨S32x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_v17_3 : Ref sig .tc := ⟨.hbm, 31, rfl⟩
abbrev main_v17_4 : Ref sig .tc := ⟨.hbm, 32, rfl⟩
abbrev main_v17_5 : Ref sig .tc := ⟨.hbm, 33, rfl⟩
abbrev main_v17_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨2, ![32, 1], ![false, false]⟩

def k0_off1 (i : grid0.Coords) (c0_i32 : BitVec 32) (c0_i32_37 : BitVec 32) : Fin 2 → Nat :=
  let arg1 : BitVec 32 := BitVec.ofNat 32 (i 1).val
  let c8_i32 : BitVec 32 := 8#32
  let v0 : BitVec 32 := Scalar.muli arg1 c8_i32
  let v85 : BitVec 32 := Scalar.addi c0_i32 v0
  let v86 : BitVec 32 := Scalar.addi v85 c0_i32_37
  let v88 : Index := Scalar.indexCast v86
  let c0_38 : Index := 0#32
  ![v88.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_15 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_16 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_17 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1536x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S32x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S32x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8x128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S32x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S32x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S176x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S32x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== FfnInRefIdeal.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x1536 : Shape := ⟨3, ![1, 1024, 1536]⟩
abbrev S1x1024x1024 : Shape := ⟨3, ![1, 1024, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2816 : Shape := ⟨2, ![1024, 2816]⟩
abbrev S2816x1024 : Shape := ⟨2, ![2816, 1024]⟩
abbrev S8x4096x2816 : Shape := ⟨3, ![8, 4096, 2816]⟩
abbrev S1024x1536 : Shape := ⟨2, ![1024, 1536]⟩
abbrev S8x4096x1536 : Shape := ⟨3, ![8, 4096, 1536]⟩
abbrev S8x4096x512 : Shape := ⟨3, ![8, 4096, 512]⟩
abbrev S1024x1024 : Shape := ⟨2, ![1024, 1024]⟩

abbrev nBuf : Space → Nat
  | .hbm => 88
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1x1024x1536, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S1x1024x1024, .f32⟩
  | .hbm, ⟨11, _⟩ => ⟨S1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S1x1x1024, .f32⟩
  | .hbm, ⟨26, _⟩ => ⟨S8x4096x1024, .f32⟩
  | .hbm, ⟨27, _⟩ => ⟨S8x4096x1024, .f32⟩
  | .hbm, ⟨28, _⟩ => ⟨S1024x2816, .f32⟩
  | .hbm, ⟨29, _⟩ => ⟨S1024x2816, .f32⟩
  | .hbm, ⟨30, _⟩ => ⟨S2816x1024, .f32⟩
  | .hbm, ⟨31, _⟩ => ⟨S8x4096x2816, .f32⟩
  | .hbm, ⟨32, _⟩ => ⟨S8x4096x2816, .f32⟩
  | .hbm, ⟨33, _⟩ => ⟨S8x4096x2816, .f32⟩
  | .hbm, ⟨34, _⟩ => ⟨S_, .f32⟩
  | .hbm, ⟨35, _⟩ => ⟨S8x4096x2816, .f32⟩
  | .hbm, ⟨36, _⟩ => ⟨S8x4096x2816, .f32⟩
  | .hbm, ⟨37, _⟩ => ⟨S_, .f32⟩
  | .hbm, ⟨38, _⟩ => ⟨S8x4096x2816, .f32⟩
  | .hbm, ⟨39, _⟩ => ⟨S8x4096x2816, .f32⟩
  | .hbm, ⟨40, _⟩ => ⟨S8x4096x2816, .f32⟩
  | .hbm, ⟨41, _⟩ => ⟨S8x4096x2816, .f32⟩
  | .hbm, ⟨42, _⟩ => ⟨S8x4096x2816, .f32⟩
  | .hbm, ⟨43, _⟩ => ⟨S8x4096x1024, .f32⟩
  | .hbm, ⟨44, _⟩ => ⟨S_, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S1024, .f32⟩
  | .hbm, ⟨49, _⟩ => ⟨S8x4096x1024, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S8x4096x1, .f32⟩
  | .hbm, ⟨60, _⟩ => ⟨S8x4096x1024, .f32⟩
  | .hbm, ⟨61, _⟩ => ⟨S8x4096x1024, .f32⟩
  | .hbm, ⟨62, _⟩ => ⟨S1x1x1024, .f32⟩
  | .hbm, ⟨63, _⟩ => ⟨S8x4096x1024, .f32⟩
  | .hbm, ⟨64, _⟩ => ⟨S8x4096x1024, .f32⟩
  | .hbm, ⟨65, _⟩ => ⟨S1024x1536, .f32⟩
  | .hbm, ⟨66, _⟩ => ⟨S8x4096x1536, .f32⟩
  | .hbm, ⟨67, _⟩ => ⟨S8x4096x1024, .f32⟩
  | .hbm, ⟨68, _⟩ => ⟨S8x4096x512, .f32⟩
  | .hbm, ⟨69, _⟩ => ⟨S8x4096x512, .f32⟩
  | .hbm, ⟨70, _⟩ => ⟨S8x4096x512, .f32⟩
  | .hbm, ⟨71, _⟩ => ⟨S8x4096x512, .f32⟩
  | .hbm, ⟨72, _⟩ => ⟨S_, .f32⟩
  | .hbm, ⟨73, _⟩ => ⟨S8x4096x512, .f32⟩
  | .hbm, ⟨74, _⟩ => ⟨S8x4096x512, .f32⟩
  | .hbm, ⟨75, _⟩ => ⟨S_, .f32⟩
  | .hbm, ⟨76, _⟩ => ⟨S8x4096x512, .f32⟩
  | .hbm, ⟨77, _⟩ => ⟨S8x4096x512, .f32⟩
  | .hbm, ⟨78, _⟩ => ⟨S8x4096x512, .f32⟩
  | .hbm, ⟨79, _⟩ => ⟨S8x4096x512, .f32⟩
  | .hbm, ⟨80, _⟩ => ⟨S1024x2816, .f32⟩
  | .hbm, ⟨81, _⟩ => ⟨S1024x2816, .bf16⟩
  | .hbm, ⟨82, _⟩ => ⟨S1024x2816, .f32⟩
  | .hbm, ⟨83, _⟩ => ⟨S1024x2816, .bf16⟩
  | .hbm, ⟨84, _⟩ => ⟨S2816x1024, .f32⟩
  | .hbm, ⟨85, _⟩ => ⟨S2816x1024, .bf16⟩
  | .hbm, ⟨86, _⟩ => ⟨S1024x1024, .f32⟩
  | .hbm, ⟨87, _⟩ => ⟨S1024x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩

abbrev nD : Nat := 1
abbrev τ : Topo := Topo.v7x

variable {F : FTy → Type} [FloatOps F]
-- ==== Proof.OutRun.lean ====
/- The body of the output call, run once on whole staging memrefs over any float values: what its store leaves in the output window. -/
module

public import proofs.«01_k».proof.Proof.Gen.OutFfnIdeal.Skeleton
public import proofs.«01_k».proof.Proof.Gen.OutFfnIdeal.Frame

@[expose] public section

set_option maxRecDepth 16384

noncomputable section

namespace Cert.OutFfnIdeal.Run

open Cert.OutFfnIdeal Cert.OutFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- What the body stores in the output window, as pieces, with the proof that on whole staging memrefs (the inputs'
    at their contents, the output's at anything) the body runs to its end, the inputs kept and the pieces written. -/
def bodyRun (c : Dev nD) (i : grid0.Coords) (arg2 : Memref sig .tc .vmem S8x128x1024 .f32) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S512x512 .bf16) (harg5 : arg5.IsWhole) (arg6 : Memref sig .tc .vmem S512x1 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x2816 .bf16) (harg9 : arg9.IsWhole) (arg10 : Memref sig .tc .vmem S1024x2816 .bf16) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S8x128x1024 .f32) (harg13 : arg13.IsWhole)
    (x0 : Vec F S8x128x1024 .f32) (x1 : Vec F S512x8x128 .f32) (x2 : Vec F S512x8x128 .f32) (x3 : Vec F S512x512 .bf16) (x4 : Vec F S512x1 .f32) (x5 : Vec F S1024x1024 .bf16) (x6 : Vec F S1x1024 .f32) (x7 : Vec F S1024x2816 .bf16) (x8 : Vec F S1024x2816 .bf16) (x9 : Vec F S2816x1024 .bf16) (x10 : Vec F S1x1024 .f32) :
    { L : List (View.Piece (Elt F) S8x128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L)) -∗ K ⟨⟩))
          ⊢ wp frame (wpE (defs₀ (F := F)) Variants.none c none) E (cc0_out_ffn2_norm i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_out_ffn2_norm_eq_skeleton]; unfold cc0_out_ffn2_norm_skel
    simp only [k0_part159_eq_skeleton, k0_part160_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact H11

end Cert.OutFfnIdeal.Run

end
-- ==== Proof.OutSlab.lean ====
/- The output call's slab reads: the strided loads of a slab block, laid side by side and stacked, are the block with its
   sequence and time axes merged. -/
module

public import proofs.«01_k».proof.Proof.Gen.OutFfnIdeal.Skeleton
public import Idealize.ShloMosaic.Lib.Pointwise

@[expose] public section

set_option maxRecDepth 16384

noncomputable section

namespace Cert.OutFfnIdeal.Slab

open Cert.OutFfnIdeal Cert.OutFfnIdeal.Gen Idealize.ShloMosaic

variable {F : FTy → Type} [FloatOps F]

/-- Pieces of one shape have that shape's list of shapes. -/
theorem shapes_ofFn {s₁ : Shape} {N : Nat} (f : Fin N → FVec F s₁ .f32) :
    (List.ofFn fun n => (⟨s₁, f n⟩ : (s : Shape) × FVec F s .f32)).map (·.1) = List.replicate N s₁ := by
  rw [List.map_ofFn]; exact List.ofFn_const _ _

/-- Eight strips make a band. -/
theorem band_fits : Shape.Concatenates (List.replicate 8 S8x128) S8x1024 1 := by decide +kernel

/-- Sixty-four bands make the block. -/
theorem whole_fits : Shape.Concatenates (List.replicate 64 S8x1024) S512x1024 0 := by decide +kernel

/-- One strided load of a slab block: 8 channels of one sequence. -/
def strip (i : grid0.Coords) (arg : Memref sig .tc .vmem S512x8x128 .f32) (harg : arg.IsWhole) (x : Vec F S512x8x128 .f32)
    (r : Fin 64) (s : Fin 8) : FVec F S8x128 .f32 :=
  shapeCast S8x128 (View.readAt (Elt F)
    (arg.reshape S4096x128 reshapes_S512x8x128_S4096x128.1 reshapes_S512x8x128_S4096x128.2 harg.contiguous).view
    ⟨k0_off1 i (BitVec.ofNat 32 (64 * r.val)) (BitVec.ofNat 32 s.val), S8x128.size, ![8, 1], k0_off1_inb i r s⟩ (harg.unread x))
    shapeCasts_S8x128_S8x128

/-- The 8 sequences of 8 channels side by side. -/
def band (i : grid0.Coords) (arg : Memref sig .tc .vmem S512x8x128 .f32) (harg : arg.IsWhole) (x : Vec F S512x8x128 .f32)
    (r : Fin 64) : FVec F S8x1024 .f32 :=
  concatenate S8x1024 1 (List.ofFn fun s : Fin 8 => (⟨S8x128, strip i arg harg x r s⟩ : (s : Shape) × FVec F s .f32))
    ((shapes_ofFn fun s => strip i arg harg x r s) ▸ band_fits)

/-- All 512 channels of the block. -/
def whole (i : grid0.Coords) (arg : Memref sig .tc .vmem S512x8x128 .f32) (harg : arg.IsWhole) (x : Vec F S512x8x128 .f32) :
    FVec F S512x1024 .f32 :=
  concatenate S512x1024 0 (List.ofFn fun r : Fin 64 => (⟨S8x1024, band i arg harg x r⟩ : (s : Shape) × FVec F s .f32)) ((shapes_ofFn fun r => band i arg harg x r) ▸ whole_fits)

/-- A strided load holds the channels `8 r + a` of the sequence `s`. -/
theorem strip_apply (i : grid0.Coords) (arg : Memref sig .tc .vmem S512x8x128 .f32) (harg : arg.IsWhole) (x : Vec F S512x8x128 .f32)
    (r : Fin 64) (s a : Fin 8) (l : Fin 128) :
    strip i arg harg x r s (ix2 a l) = x (ix3 (⟨8 * r.val + a.val, by omega⟩ : Fin 512) s l) := by
  have hi : (i 1).val = 0 := by have : (i 1).val < 1 := (i 1).isLt; omega
  unfold strip
  rw [shapeCast_self]
  refine (congrFun (harg.read_unread x) _).trans (congrArg x ?_)
  refine Shape.reshapeEquiv_eq_of_rowMajor _ ?_
  rw [Shape.rowMajor_val_three, Shape.rowMajor_val_two]
  show ((8 * r.val + a.val) * 8 + s.val) * 128 + l.val
    = (k0_off1 i (BitVec.ofNat 32 (64 * r.val)) (BitVec.ofNat 32 s.val) 0 + 8 * a.val) * 128
      + (k0_off1 i (BitVec.ofNat 32 (64 * r.val)) (BitVec.ofNat 32 s.val) 1 + 1 * l.val)
  rw [k0_off1_eq]
  show _ = (64 * r.val + 8 * (i 1).val + s.val + 8 * a.val) * 128 + (0 + 1 * l.val)
  rw [hi]; ring

/-- The bands' column `s * 128 + l` holds sequence `s` at lane `l`. -/
theorem band_apply (i : grid0.Coords) (arg : Memref sig .tc .vmem S512x8x128 .f32) (harg : arg.IsWhole) (x : Vec F S512x8x128 .f32)
    (r : Fin 64) (s a : Fin 8) (l : Fin 128) :
    band i arg harg x r (ix2 a (⟨s.val * 128 + l.val, by omega⟩ : Fin 1024)) = x (ix3 (⟨8 * r.val + a.val, by omega⟩ : Fin 512) s l) := by
  unfold band
  exact (concatenate_ofFn_apply (1 : Fin S8x1024.rank) (fun s => strip i arg harg x r s) _ rfl 128 rfl
    (ix2 a (⟨s.val * 128 + l.val, by omega⟩ : Fin 1024)) s
    (show (s.val * 128 + l.val) / 128 = s.val by omega) (ix2 a l) (show l.val = (s.val * 128 + l.val) % 128 by omega)
    (fun b hb => by
      match b with
      | ⟨0, _⟩ => rfl
      | ⟨1, _⟩ => exact absurd rfl hb)).trans (strip_apply i arg harg x r s a l)

/-- The whole block with its sequence and time axes merged. -/
theorem whole_apply (i : grid0.Coords) (arg : Memref sig .tc .vmem S512x8x128 .f32) (harg : arg.IsWhole) (x : Vec F S512x8x128 .f32)
    (ch : Fin 512) (s : Fin 8) (l : Fin 128) :
    whole i arg harg x (ix2 ch (⟨s.val * 128 + l.val, by omega⟩ : Fin 1024)) = x (ix3 ch s l) := by
  unfold whole
  refine (concatenate_ofFn_apply (0 : Fin S512x1024.rank) (fun r => band i arg harg x r) _ rfl 8 rfl
    (ix2 ch (⟨s.val * 128 + l.val, by omega⟩ : Fin 1024)) (⟨ch.val / 8, by omega⟩ : Fin 64) rfl (ix2 (⟨ch.val % 8, by omega⟩ : Fin 8) (⟨s.val * 128 + l.val, by omega⟩ : Fin 1024)) rfl
    (fun b hb => by
      match b with
      | ⟨0, _⟩ => exact absurd rfl hb
      | ⟨1, _⟩ => rfl)).trans ((band_apply i arg harg x _ s _ l).trans ?_)
  congr 2
  exact Fin.ext (Nat.div_add_mod _ _)

end Cert.OutFfnIdeal.Slab

end
-- ==== Proof.Token.lean ====
/- The layer's arithmetic for one token, over the extended reals: the RMS scale, the SwiGLU feed-forward half step, and
   the laws that carry the kernels' order of operations to the reference's. -/
module

public import Idealize.ShloMosaic.Lib.Pointwise
public import Idealize.ShloMosaic.Lib.IdealHost

@[expose] public section

noncomputable section

namespace Cert.Token

open Idealize.ShloMosaic

/-! ## The constants -/

/-- The f32 pattern of the width 1024. -/
theorem ofBits_1024 : Ideal.ofBits .f32 0x44800000#32 = ((1024 : ℝ) : EReal) := by
  simp [Ideal.ofBits, Ideal.ieee, -EReal.coe_mul]; norm_num

/-- The f32 pattern of the norm's `1e-6` is a positive real number. -/
theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

/-! ## The RMS scale -/

/-- The reciprocal root mean square of a token, with the norm's epsilon. -/
def rinv (x : Fin 1024 → EReal) : EReal :=
  Ideal.rsqrt (Ideal.div (∑ k : Fin 1024, x k * x k) (Ideal.ofBits .f32 0x44800000#32) + Ideal.ofBits .f32 0x358637BD#32)

/-- A square is not negative. -/
theorem sq_nonneg (a : EReal) : 0 ≤ a * a := by
  rcases le_total 0 a with h | h
  · exact mul_nonneg h h
  · have := EReal.neg_le_neg_iff.mpr h
    rw [neg_zero] at this
    rw [← neg_mul_neg]; exact mul_nonneg this this

/-- The scale is not negative. -/
theorem rinv_nonneg (x : Fin 1024 → EReal) : 0 ≤ rinv x ∧ rinv x ≠ ⊤ := by
  obtain ⟨e, he, hb⟩ := ofBits_eps
  have hs : 0 ≤ ∑ k : Fin 1024, x k * x k := Finset.sum_nonneg fun k _ => sq_nonneg _
  unfold rinv
  rw [hb, ofBits_1024, Ideal.div_coe (by norm_num)]
  generalize (∑ k : Fin 1024, x k * x k) = s at hs
  induction s with
  | bot => simp at hs
  | top =>
    rw [EReal.top_mul_coe_of_pos (by norm_num), EReal.top_add_coe, Ideal.rsqrt_top]
    exact ⟨le_rfl, EReal.zero_ne_top⟩
  | coe s =>
    have hs' : 0 ≤ s := by exact_mod_cast hs
    have hp : 0 < s * (1 / 1024) + e := by positivity
    rw [← EReal.coe_mul, ← EReal.coe_add, Ideal.rsqrt_coe, if_neg (not_lt.mpr hp.le), if_neg hp.ne']
    exact ⟨by exact_mod_cast (inv_nonneg.mpr (Real.sqrt_nonneg _)), EReal.coe_ne_top _⟩

/-- A scale that is not negative and not infinite comes out of a sum. -/
theorem sum_mul {ι : Type} (s : Finset ι) (f : ι → EReal) {r : EReal} (h0 : 0 ≤ r) (h1 : r ≠ ⊤) :
    (∑ k ∈ s, f k) * r = ∑ k ∈ s, f k * r := by
  classical
  induction s using Finset.induction_on with
  | empty => simp
  | insert a s ha ih => rw [Finset.sum_insert ha, Finset.sum_insert ha, EReal.right_distrib_of_nonneg_of_ne_top h0 h1, ih]

/-- A row's projection scaled after the sum is the projection of the normalised row. -/
theorem proj_scaled (x g w : Fin 1024 → EReal) :
    (∑ k : Fin 1024, x k * g k * w k) * rinv x = ∑ k : Fin 1024, x k * rinv x * g k * w k := by
  rw [sum_mul _ _ (rinv_nonneg x).1 (rinv_nonneg x).2]
  refine Finset.sum_congr rfl fun k _ => ?_
  rw [mul_right_comm, mul_right_comm (x k) (g k)]

/-! ## The feed-forward half step -/

/-- The hidden unit: the gate's silu times the up projection. -/
def hid (x g wg wu : Fin 1024 → EReal) : EReal :=
  let a := ∑ k : Fin 1024, x k * rinv x * g k * wg k
  a * Ideal.logistic a * ∑ k : Fin 1024, x k * rinv x * g k * wu k

/-- The token after the half step. -/
def ffn (x g : Fin 1024 → EReal) (wg wu : Fin 1024 → Fin 2816 → EReal) (wd : Fin 2816 → Fin 1024 → EReal) (j : Fin 1024) : EReal :=
  x j + Ideal.ofBits .f32 0x3F000000#32 * ∑ f : Fin 2816, hid x g (wg · f) (wu · f) * wd f j

/-- The hidden unit with the scale applied to the projections. -/
theorem hid_scaled (x g wg wu : Fin 1024 → EReal) :
    (∑ k : Fin 1024, x k * g k * wg k) * rinv x * Ideal.logistic ((∑ k : Fin 1024, x k * g k * wg k) * rinv x)
        * ((∑ k : Fin 1024, x k * g k * wu k) * rinv x) = hid x g wg wu := by
  rw [proj_scaled, proj_scaled, hid]

/-- The hidden layer's sum in the kernels' two pieces. -/
theorem sum_split (h : Fin 2816 → EReal) :
    (∑ f : Fin 1536, h ⟨f.val, by omega⟩) + ∑ f : Fin 1280, h ⟨1536 + f.val, by omega⟩ = ∑ f : Fin 2816, h f := by
  rw [show (∑ f : Fin 2816, h f) = ∑ f : Fin (1536 + 1280), h (Fin.cast rfl f) from rfl, Fin.sum_univ_add]
  rfl

/-- A 1024-wide sum in two halves. -/
theorem sum_halves (h : Fin 1024 → EReal) :
    (∑ f : Fin 512, h ⟨f.val, by omega⟩) + ∑ f : Fin 512, h ⟨512 + f.val, by omega⟩ = ∑ f : Fin 1024, h f := by
  rw [show (∑ f : Fin 1024, h f) = ∑ f : Fin (512 + 512), h (Fin.cast rfl f) from rfl, Fin.sum_univ_add]
  rfl

/-! ## The input projection -/

/-- One column of the normalised token's projection. -/
def projected (x g w : Fin 1024 → EReal) : EReal := ∑ k : Fin 1024, x k * rinv x * g k * w k

/-- The projection with the scale applied after the sum. -/
theorem projected_scaled (x g w : Fin 1024 → EReal) : (∑ k : Fin 1024, w k * (x k * g k)) * rinv x = projected x g w := by
  rw [projected, ← proj_scaled]
  simp only [mul_comm (w _)]

/-! ## The output call's token -/

/-- The S5 channel after its output gate. -/
def gated (y : Fin 512 → EReal) (w : Fin 512 → Fin 512 → EReal) (b : Fin 512 → EReal) (c : Fin 512) : EReal :=
  y c * Ideal.logistic ((∑ k : Fin 512, y k * w k c) + b c)

/-- The residual stream after the mixers' output projection. -/
def mixed (x : Fin 1024 → EReal) (ys yc : Fin 512 → EReal) (w : Fin 512 → Fin 512 → EReal) (b : Fin 512 → EReal)
    (wo : Fin 1024 → Fin 1024 → EReal) (j : Fin 1024) : EReal :=
  x j + ((∑ k : Fin 512, gated ys w b k * wo ⟨k.val, by omega⟩ j) + ∑ k : Fin 512, yc k * wo ⟨512 + k.val, by omega⟩ j)

/-- The final norm. -/
def normed (x g : Fin 1024 → EReal) (j : Fin 1024) : EReal := x j * rinv x * g j

end Cert.Token

end
-- ==== Proof.OutTile.lean ====
/- What the output call computes on one tile, read at an index: the payloads of the call's arithmetic. -/
module

public import proofs.«01_k».proof.Proof.Gen.OutFfnIdeal.Skeleton
public import proofs.«01_k».proof.Proof.Token

@[expose] public section

set_option maxRecDepth 16384

noncomputable section

namespace Cert.OutFfnIdeal.Tile

open Cert.OutFfnIdeal Cert.OutFfnIdeal.Gen Idealize.ShloMosaic

/-- The residual stream after the mixers, at a token `r` of the tile and a column `j`. -/
theorem mixed_apply (ys : FVec Ideal S512x1024 .f32) (x : FVec Ideal S1024x1024 .f32) (yc : FVec Ideal S512x1024 .bf16)
    (wc : FVec Ideal S512x1024 .bf16) (wglu : Vec Ideal S512x512 .bf16) (b : Vec Ideal S512x1 .f32)
    (ws : Vec Ideal S512x1024 .bf16) (r j : Fin 1024) :
    k0_pay676 ys x yc wc wglu b ws (ix2 r j)
      = x (ix2 r j) + (∑ k : Fin 512, yc (ix2 k r) * wc (ix2 k j))
        + ∑ k : Fin 512, ys (ix2 k r) * Ideal.logistic ((∑ m : Fin 512, wglu (ix2 k m) * ys (ix2 m r)) + b (ix2 k 0)) * ws (ix2 k j) := by
  pointwise [k0_pay676]

/-- The row times the norm's gain. -/
theorem gained_apply (ys : FVec Ideal S512x1024 .f32) (x : FVec Ideal S1024x1024 .f32) (yc : FVec Ideal S512x1024 .bf16)
    (wc : FVec Ideal S512x1024 .bf16) (wglu : Vec Ideal S512x512 .bf16) (b : Vec Ideal S512x1 .f32)
    (ws : Vec Ideal S512x1024 .bf16) (g : Vec Ideal S1x1024 .f32) (r j : Fin 1024) :
    k0_pay677 ys x yc wc wglu b ws g (ix2 r j) = k0_pay676 ys x yc wc wglu b ws (ix2 r j) * g (ix2 0 j) := by
  pointwise [k0_pay677]

/-- The row's RMS scale. -/
theorem scale_apply (ys : FVec Ideal S512x1024 .f32) (x : FVec Ideal S1024x1024 .f32) (yc : FVec Ideal S512x1024 .bf16)
    (wc : FVec Ideal S512x1024 .bf16) (wglu : Vec Ideal S512x512 .bf16) (b : Vec Ideal S512x1 .f32)
    (ws : Vec Ideal S512x1024 .bf16) (r : Fin 1024) :
    k0_pay678 ys x yc wc wglu b ws (ix2 r 0) = Token.rinv fun k => k0_pay676 ys x yc wc wglu b ws (ix2 r k) := by
  pointwise [k0_pay678, Token.rinv]

/-- The gate's projection, first piece of the hidden width. -/
theorem gate_apply (ys : FVec Ideal S512x1024 .f32) (x : FVec Ideal S1024x1024 .f32) (yc : FVec Ideal S512x1024 .bf16)
    (wc : FVec Ideal S512x1024 .bf16) (wglu : Vec Ideal S512x512 .bf16) (b : Vec Ideal S512x1 .f32)
    (ws : Vec Ideal S512x1024 .bf16) (g : Vec Ideal S1x1024 .f32) (w : Vec Ideal S1024x1536 .bf16) (r : Fin 1024) (f : Fin 1536) :
    k0_pay679 ys x yc wc wglu b ws g w (ix2 r f)
      = (∑ k : Fin 1024, k0_pay677 ys x yc wc wglu b ws g (ix2 r k) * w (ix2 k f)) * k0_pay678 ys x yc wc wglu b ws (ix2 r 0) := by
  pointwise [k0_pay679]

/-- The up projection, first piece of the hidden width. -/
theorem up_apply (ys : FVec Ideal S512x1024 .f32) (x : FVec Ideal S1024x1024 .f32) (yc : FVec Ideal S512x1024 .bf16)
    (wc : FVec Ideal S512x1024 .bf16) (wglu : Vec Ideal S512x512 .bf16) (b : Vec Ideal S512x1 .f32)
    (ws : Vec Ideal S512x1024 .bf16) (g : Vec Ideal S1x1024 .f32) (w : Vec Ideal S1024x1536 .bf16) (r : Fin 1024) (f : Fin 1536) :
    k0_pay680 ys x yc wc wglu b ws g w (ix2 r f)
      = (∑ k : Fin 1024, k0_pay677 ys x yc wc wglu b ws g (ix2 r k) * w (ix2 k f)) * k0_pay678 ys x yc wc wglu b ws (ix2 r 0) := by
  pointwise [k0_pay680]

/-- The token after the feed-forward half step, in the call's order of operations. -/
def stepped (x : FVec Ideal S1024x1024 .f32) (h : FVec Ideal S1024x1024 .bf16) (s : FVec Ideal S1024x1 .f32)
    (a u : FVec Ideal S1024x1536 .f32) (wd : Vec Ideal S1536x1024 .bf16) (wg' wu' : Vec Ideal S1024x1280 .bf16)
    (wd' : Vec Ideal S1280x1024 .bf16) (r j : Fin 1024) : EReal :=
  x (ix2 r j) + Ideal.ofBits .f32 0x3F000000#32 *
    ((∑ f : Fin 1536, a (ix2 r f) * Ideal.logistic (a (ix2 r f)) * u (ix2 r f) * wd (ix2 f j))
      + ∑ f : Fin 1280, (∑ k : Fin 1024, h (ix2 r k) * wg' (ix2 k f)) * s (ix2 r 0)
          * Ideal.logistic ((∑ k : Fin 1024, h (ix2 r k) * wg' (ix2 k f)) * s (ix2 r 0))
          * ((∑ k : Fin 1024, h (ix2 r k) * wu' (ix2 k f)) * s (ix2 r 0)) * wd' (ix2 f j))

/-- The stored row: the half step, then the final norm. -/
theorem stored_apply (x : FVec Ideal S1024x1024 .f32) (h : FVec Ideal S1024x1024 .bf16) (s : FVec Ideal S1024x1 .f32)
    (a u : FVec Ideal S1024x1536 .f32) (wd : Vec Ideal S1536x1024 .bf16) (wg' wu' : Vec Ideal S1024x1280 .bf16)
    (wd' : Vec Ideal S1280x1024 .bf16) (gf : Vec Ideal S1x1024 .f32) (r j : Fin 1024) :
    k0_pay681 x h s a u wd wg' wu' wd' gf (ix2 r j)
      = Token.normed (stepped x h s a u wd wg' wu' wd' r) (fun j => gf (ix2 0 j)) j := by
  pointwise [k0_pay681, Token.normed, Token.rinv, stepped]

end Cert.OutFfnIdeal.Tile

end
-- ==== Proof.OutSpec.lean ====
/- What the output call stores, from the loaded values: the tile at a sequence, a lane and a column is the token arithmetic. -/
module

public import proofs.«01_k».proof.Proof.OutTile

@[expose] public section

set_option maxRecDepth 16384

noncomputable section

namespace Cert.OutFfnIdeal.Tile

open Cert.OutFfnIdeal Cert.OutFfnIdeal.Gen Idealize.ShloMosaic

/-- The stored tile, from the two slab blocks and the other loads in the order of the arguments' windows. -/
def tileOf {F : FTy → Type} [FloatOps F] (ys yc : FVec F S512x1024 .f32) (x : Vec F S8x128x1024 .f32) (wglu : Vec F S512x512 .bf16)
    (b : Vec F S512x1 .f32) (ws wc : Vec F S512x1024 .bf16) (g : Vec F S1x1024 .f32) (wg : Vec F S1024x1536 .bf16)
    (wg' : Vec F S1024x1280 .bf16) (wu : Vec F S1024x1536 .bf16) (wu' : Vec F S1024x1280 .bf16) (wd : Vec F S1536x1024 .bf16)
    (wd' : Vec F S1280x1024 .bf16) (gf : Vec F S1x1024 .f32) : FVec F S8x128x1024 .f32 :=
  k0_pay1 (k0_pay681 (k0_pay676 ys (k0_pay673 x) (truncf .bf16 yc bitsLt_bf16_f32) (k0_pay675 wc) wglu b ws)
    (k0_pay677 ys (k0_pay673 x) (truncf .bf16 yc bitsLt_bf16_f32) (k0_pay675 wc) wglu b ws g)
    (k0_pay678 ys (k0_pay673 x) (truncf .bf16 yc bitsLt_bf16_f32) (k0_pay675 wc) wglu b ws)
    (k0_pay679 ys (k0_pay673 x) (truncf .bf16 yc bitsLt_bf16_f32) (k0_pay675 wc) wglu b ws g wg)
    (k0_pay680 ys (k0_pay673 x) (truncf .bf16 yc bitsLt_bf16_f32) (k0_pay675 wc) wglu b ws g wu) wd wg' wu' wd' gf)

/-- A tile's row is its sequence and lane. -/
theorem rows_apply (x : Vec Ideal S8x128x1024 .f32) (s : Fin 8) (l : Fin 128) (j : Fin 1024) :
    k0_pay673 x (ix2 (⟨s.val * 128 + l.val, by omega⟩ : Fin 1024) j) = x (ix3 s l j) := by
  unfold k0_pay673
  exact shapeCast_apply _ _ _ _ (by rw [Shape.rowMajor_val_three, Shape.rowMajor_val_two]; rfl)

/-- The stored tile unmerges the rows. -/
theorem stored_rows_apply (v : FVec Ideal S1024x1024 .f32) (s : Fin 8) (l : Fin 128) (j : Fin 1024) :
    k0_pay1 v (ix3 s l j) = v (ix2 (⟨s.val * 128 + l.val, by omega⟩ : Fin 1024) j) := by
  unfold k0_pay1
  exact shapeCast_apply _ _ _ _ (by rw [Shape.rowMajor_val_three, Shape.rowMajor_val_two]; rfl)

/-- The stored tile is the output call's token arithmetic. -/
theorem tileOf_apply (ys yc : FVec Ideal S512x1024 .f32) (x : Vec Ideal S8x128x1024 .f32) (wglu : Vec Ideal S512x512 .bf16)
    (b : Vec Ideal S512x1 .f32) (ws wc : Vec Ideal S512x1024 .bf16) (g : Vec Ideal S1x1024 .f32) (wg : Vec Ideal S1024x1536 .bf16)
    (wg' : Vec Ideal S1024x1280 .bf16) (wu : Vec Ideal S1024x1536 .bf16) (wu' : Vec Ideal S1024x1280 .bf16)
    (wd : Vec Ideal S1536x1024 .bf16) (wd' : Vec Ideal S1280x1024 .bf16) (gf : Vec Ideal S1x1024 .f32)
    (WO : Fin 1024 → Fin 1024 → EReal) (WG WU : Fin 1024 → Fin 2816 → EReal) (WD : Fin 2816 → Fin 1024 → EReal)
    (hws : ∀ (k : Fin 512) j, ws (ix2 k j) = WO ⟨k.val, by omega⟩ j) (hwc : ∀ (k : Fin 512) j, wc (ix2 k j) = WO ⟨512 + k.val, by omega⟩ j)
    (hwg : ∀ k (f : Fin 1536), wg (ix2 k f) = WG k ⟨f.val, by omega⟩) (hwg' : ∀ k (f : Fin 1280), wg' (ix2 k f) = WG k ⟨1536 + f.val, by omega⟩)
    (hwu : ∀ k (f : Fin 1536), wu (ix2 k f) = WU k ⟨f.val, by omega⟩) (hwu' : ∀ k (f : Fin 1280), wu' (ix2 k f) = WU k ⟨1536 + f.val, by omega⟩)
    (hwd : ∀ (f : Fin 1536) j, wd (ix2 f j) = WD ⟨f.val, by omega⟩ j) (hwd' : ∀ (f : Fin 1280) j, wd' (ix2 f j) = WD ⟨1536 + f.val, by omega⟩ j)
    (s : Fin 8) (l : Fin 128) (j : Fin 1024) :
    tileOf ys yc x wglu b ws wc g wg wg' wu wu' wd wd' gf (ix3 s l j)
      = Token.normed (Token.ffn (Token.mixed (fun j => x (ix3 s l j)) (fun k => ys (ix2 k (⟨s.val * 128 + l.val, by omega⟩ : Fin 1024)))
            (fun k => yc (ix2 k (⟨s.val * 128 + l.val, by omega⟩ : Fin 1024))) (fun k c => wglu (ix2 c k)) (fun c => b (ix2 c 0)) WO)
          (fun j => g (ix2 0 j)) WG WU WD) (fun j => gf (ix2 0 j)) j := by
  have hm : ∀ j, k0_pay676 ys (k0_pay673 x) (truncf .bf16 yc bitsLt_bf16_f32) (k0_pay675 wc) wglu b ws
        (ix2 (⟨s.val * 128 + l.val, by omega⟩ : Fin 1024) j)
      = Token.mixed (fun j => x (ix3 s l j)) (fun k => ys (ix2 k (⟨s.val * 128 + l.val, by omega⟩ : Fin 1024)))
            (fun k => yc (ix2 k (⟨s.val * 128 + l.val, by omega⟩ : Fin 1024))) (fun k c => wglu (ix2 c k)) (fun c => b (ix2 c 0)) WO j := by
    intro j
    have hc : ∀ k j, k0_pay675 (F := Ideal) wc (ix2 k j) = WO ⟨512 + k.val, by omega⟩ j := fun k j => by
      rw [← hwc]; pointwise [k0_pay675]
    have hy : ∀ k j, (truncf .bf16 yc bitsLt_bf16_f32 : FVec Ideal S512x1024 .bf16) (ix2 k j) = yc (ix2 k j) := fun k j => by
      pointwise
    rw [mixed_apply, rows_apply, Token.mixed, add_assoc, add_comm (∑ k : Fin 512, _)]
    simp only [Token.gated, hws, hc, hy, mul_comm (wglu _)]
  unfold tileOf
  rw [stored_rows_apply, stored_apply]
  congr 1
  funext j
  unfold stepped Token.ffn
  simp only [gate_apply, up_apply, gained_apply, scale_apply, hm, hwg, hwu, hwg', hwu', hwd, hwd']
  rw [← Token.sum_split]
  simp only [Token.hid_scaled]

end Cert.OutFfnIdeal.Tile

end
-- ==== Proof.OutBody.lean ====
/- The output call's body as one triple: on whole staging memrefs it leaves `stored` of the input blocks in the output window. -/
module

public import proofs.«01_k».proof.Proof.OutRun
public import proofs.«01_k».proof.Proof.Gen.OutFfnIdeal.Frame
public import proofs.«01_k».proof.Proof.OutSlab
public import proofs.«01_k».proof.Proof.OutSpec

@[expose] public section

set_option maxRecDepth 16384

noncomputable section

namespace Cert.OutFfnIdeal.Body

open Cert.OutFfnIdeal Cert.OutFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A slab block with its sequence and time axes merged. -/
def merged (x : Vec F S512x8x128 .f32) : FVec F S512x1024 .f32 := fun j =>
  x (ix3 (j 0 : Fin 512) (⟨(j 1).val / 128, by have : (j 1).val < 1024 := (j 1).isLt; omega⟩ : Fin 8) (⟨(j 1).val % 128, by omega⟩ : Fin 128))

/-- The strided loads assemble the merged block. -/
theorem whole_eq (i : grid0.Coords) (arg : Memref sig .tc .vmem S512x8x128 .f32) (harg : arg.IsWhole) (x : Vec F S512x8x128 .f32) :
    Slab.whole i arg harg x = merged x := by
  funext j
  have hj : (j 1).val < 1024 := (j 1).isLt
  have e : ix2 (j 0 : Fin 512) (⟨(j 1).val / 128 * 128 + (j 1).val % 128, by omega⟩ : Fin 1024) = j :=
    (congrArg (ix2 (j 0 : Fin 512)) (Fin.ext (Nat.div_add_mod' _ _))).trans (eq_ix2 j).symm
  exact (congrArg (Slab.whole i arg harg x) e.symm).trans
    (Slab.whole_apply i arg harg x (j 0) (⟨(j 1).val / 128, by omega⟩ : Fin 8) (⟨(j 1).val % 128, by omega⟩ : Fin 128))

/-- What the body leaves in the output window, from the input blocks. -/
def stored (x0 : Vec F S8x128x1024 .f32) (x1 : Vec F S512x8x128 .f32) (x2 : Vec F S512x8x128 .f32) (x3 : Vec F S512x512 .bf16) (x4 : Vec F S512x1 .f32) (x5 : Vec F S1024x1024 .bf16) (x6 : Vec F S1x1024 .f32) (x7 : Vec F S1024x2816 .bf16) (x8 : Vec F S1024x2816 .bf16) (x9 : Vec F S2816x1024 .bf16) (x10 : Vec F S1x1024 .f32) : Vec F S8x128x1024 .f32 :=
  Tile.tileOf (merged x1) (merged x2) (View.ld x0 (Rect.unit (s := S8x128x1024) ![0, 0, 0] S8x128x1024.size inb_S8x128x1024_S8x128x1024_0_0_0)) (View.ld x3 (Rect.unit (s := S512x512) ![0, 0] S512x512.size inb_S512x512_S512x512_0_0)) (View.ld x4 (Rect.unit (s := S512x1) ![0, 0] S512x1.size inb_S512x1_S512x1_0_0)) (View.ld x5 (Rect.unit (s := S1024x1024) ![0, 0] S512x1024.size inb_S1024x1024_S512x1024_0_0)) (View.ld x5 (Rect.unit (s := S1024x1024) ![512, 0] S512x1024.size inb_S1024x1024_S512x1024_512_0)) (View.ld x6 (Rect.unit (s := S1x1024) ![0, 0] S1x1024.size inb_S1x1024_S1x1024_0_0)) (View.ld x7 (Rect.unit (s := S1024x2816) ![0, 0] S1024x1536.size inb_S1024x2816_S1024x1536_0_0)) (View.ld x7 (Rect.unit (s := S1024x2816) ![0, 1536] S1024x1280.size inb_S1024x2816_S1024x1280_0_1536)) (View.ld x8 (Rect.unit (s := S1024x2816) ![0, 0] S1024x1536.size inb_S1024x2816_S1024x1536_0_0)) (View.ld x8 (Rect.unit (s := S1024x2816) ![0, 1536] S1024x1280.size inb_S1024x2816_S1024x1280_0_1536)) (View.ld x9 (Rect.unit (s := S2816x1024) ![0, 0] S1536x1024.size inb_S2816x1024_S1536x1024_0_0)) (View.ld x9 (Rect.unit (s := S2816x1024) ![1536, 0] S1280x1024.size inb_S2816x1024_S1280x1024_1536_0)) (View.ld x10 (Rect.unit (s := S1x1024) ![0, 0] S1x1024.size inb_S1x1024_S1x1024_0_0))

/-- The one store is of the whole window. -/
theorem covered (w : Vec F S8x128x1024 .f32) (y : S8x128x1024.Idx) :
    ∃ pc ∈ [(⟨(Rect.unit (s := S8x128x1024) ![0, 0, 0] S8x128x1024.size inb_S8x128x1024_S8x128x1024_0_0_0), w⟩ : View.Piece (Elt F) S8x128x1024 .f32)], y ∈ pc.1.set :=
  View.cover_of_tiledBy _ ![8, 128, 1024] (by sl_kernel_rfl) y

/-- Whatever the window held, after the store it reads the stored tile. -/
theorem read_stored (v : View sig .tc .vmem S8x128x1024 .f32) (f : v.ty.Contents (Elt F)) (w : Vec F S8x128x1024 .f32) :
    v.read (Elt F) (v.writes (Elt F) f [(⟨(Rect.unit (s := S8x128x1024) ![0, 0, 0] S8x128x1024.size inb_S8x128x1024_S8x128x1024_0_0_0), w⟩ : View.Piece (Elt F) S8x128x1024 .f32)]) = w := by
  rw [View.read_writes_eq_canon v f _ (covered w)]
  exact View.canon_cons_unit_zero (funext fun a => by
    match a with
    | ⟨0, _⟩ => rfl
    | ⟨1, _⟩ => rfl
    | ⟨2, _⟩ => rfl) _ _ _

/-- The run's store is the tile of the loaded values. -/
theorem pieces (c : Dev nD) (i : grid0.Coords) (arg2 : Memref sig .tc .vmem S8x128x1024 .f32) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S512x512 .bf16) (harg5 : arg5.IsWhole) (arg6 : Memref sig .tc .vmem S512x1 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x2816 .bf16) (harg9 : arg9.IsWhole) (arg10 : Memref sig .tc .vmem S1024x2816 .bf16) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S8x128x1024 .f32) (harg13 : arg13.IsWhole)
    (x0 : Vec F S8x128x1024 .f32) (x1 : Vec F S512x8x128 .f32) (x2 : Vec F S512x8x128 .f32) (x3 : Vec F S512x512 .bf16) (x4 : Vec F S512x1 .f32) (x5 : Vec F S1024x1024 .bf16) (x6 : Vec F S1x1024 .f32) (x7 : Vec F S1024x2816 .bf16) (x8 : Vec F S1024x2816 .bf16) (x9 : Vec F S2816x1024 .bf16) (x10 : Vec F S1x1024 .f32) :
    (Run.bodyRun c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1
      = [⟨(Rect.unit (s := S8x128x1024) ![0, 0, 0] S8x128x1024.size inb_S8x128x1024_S8x128x1024_0_0_0), Tile.tileOf (Slab.whole i arg3 harg3 x1) (Slab.whole i arg4 harg4 x2) (View.readAt (Elt F) arg2.view (Rect.unit (s := S8x128x1024) ![0, 0, 0] S8x128x1024.size inb_S8x128x1024_S8x128x1024_0_0_0).toLoadRect (harg2.unread x0)) (View.readAt (Elt F) arg5.view (Rect.unit (s := S512x512) ![0, 0] S512x512.size inb_S512x512_S512x512_0_0).toLoadRect (harg5.unread x3)) (View.readAt (Elt F) arg6.view (Rect.unit (s := S512x1) ![0, 0] S512x1.size inb_S512x1_S512x1_0_0).toLoadRect (harg6.unread x4)) (View.readAt (Elt F) arg7.view (Rect.unit (s := S1024x1024) ![0, 0] S512x1024.size inb_S1024x1024_S512x1024_0_0).toLoadRect (harg7.unread x5)) (View.readAt (Elt F) arg7.view (Rect.unit (s := S1024x1024) ![512, 0] S512x1024.size inb_S1024x1024_S512x1024_512_0).toLoadRect (harg7.unread x5)) (View.readAt (Elt F) arg8.view (Rect.unit (s := S1x1024) ![0, 0] S1x1024.size inb_S1x1024_S1x1024_0_0).toLoadRect (harg8.unread x6)) (View.readAt (Elt F) arg9.view (Rect.unit (s := S1024x2816) ![0, 0] S1024x1536.size inb_S1024x2816_S1024x1536_0_0).toLoadRect (harg9.unread x7)) (View.readAt (Elt F) arg9.view (Rect.unit (s := S1024x2816) ![0, 1536] S1024x1280.size inb_S1024x2816_S1024x1280_0_1536).toLoadRect (harg9.unread x7)) (View.readAt (Elt F) arg10.view (Rect.unit (s := S1024x2816) ![0, 0] S1024x1536.size inb_S1024x2816_S1024x1536_0_0).toLoadRect (harg10.unread x8)) (View.readAt (Elt F) arg10.view (Rect.unit (s := S1024x2816) ![0, 1536] S1024x1280.size inb_S1024x2816_S1024x1280_0_1536).toLoadRect (harg10.unread x8)) (View.readAt (Elt F) arg11.view (Rect.unit (s := S2816x1024) ![0, 0] S1536x1024.size inb_S2816x1024_S1536x1024_0_0).toLoadRect (harg11.unread x9)) (View.readAt (Elt F) arg11.view (Rect.unit (s := S2816x1024) ![1536, 0] S1280x1024.size inb_S2816x1024_S1280x1024_1536_0).toLoadRect (harg11.unread x9)) (View.readAt (Elt F) arg12.view (Rect.unit (s := S1x1024) ![0, 0] S1x1024.size inb_S1x1024_S1x1024_0_0).toLoadRect (harg12.unread x10))⟩] := by
  sl_kernel_rfl

/-- The body's triple. -/
theorem body_run (c : Dev nD) (i : grid0.Coords) (arg2 : Memref sig .tc .vmem S8x128x1024 .f32) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S512x512 .bf16) (harg5 : arg5.IsWhole) (arg6 : Memref sig .tc .vmem S512x1 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x2816 .bf16) (harg9 : arg9.IsWhole) (arg10 : Memref sig .tc .vmem S1024x2816 .bf16) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S8x128x1024 .f32) (harg13 : arg13.IsWhole)
    (x0 : Vec F S8x128x1024 .f32) (x1 : Vec F S512x8x128 .f32) (x2 : Vec F S512x8x128 .f32) (x3 : Vec F S512x512 .bf16) (x4 : Vec F S512x1 .f32) (x5 : Vec F S1024x1024 .bf16) (x6 : Vec F S1x1024 .f32) (x7 : Vec F S1024x2816 .bf16) (x8 : Vec F S1024x2816 .bf16) (x9 : Vec F S2816x1024 .bf16) (x10 : Vec F S1x1024 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (stored x0 x1 x2 x3 x4 x5 x6 x7 x8 x9 x10)) -∗ K ⟨⟩))
          ⊢ wp frame (wpE (defs₀ (F := F)) Variants.none c none) E (cc0_out_ffn2_norm i arg2 harg2 arg3 harg3 arg4 harg4 arg5 harg5 arg6 harg6 arg7 harg7 arg8 harg8 arg9 harg9 arg10 harg10 arg11 harg11 arg12 harg12 arg13 harg13) K := by
  have hL : (Run.bodyRun c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1
      = [⟨(Rect.unit (s := S8x128x1024) ![0, 0, 0] S8x128x1024.size inb_S8x128x1024_S8x128x1024_0_0_0), stored x0 x1 x2 x3 x4 x5 x6 x7 x8 x9 x10⟩] := by
    rw [pieces, whole_eq, whole_eq]
    simp only [View.readAt_eq_ld, Memref.IsWhole.read_unread]
    rfl
  have h := (Run.bodyRun c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).2 E K
  rw [hL] at h
  iintro ⟨H0, H1, H2, H3, H4, H5, H6, H7, H8, H9, H10, H11, Hk⟩
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, H10, ⟨%f, H11⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact read_stored _ _ _

end Cert.OutFfnIdeal.Body

end
-- ==== Proof.OutLaunch.lean ====
/- The launch of the output call over any float values: the pipeline's proof data from the body's triple, the run of the whole program, and the frame. -/
module

public import proofs.«01_k».proof.Proof.OutBody
public import Idealize.ShloMosaic.Lib.Claim
public import Idealize.ShloMosaic.Lib.Pipeline.Value

@[expose] public section

set_option maxRecDepth 16384

noncomputable section

namespace Cert.OutFfnIdeal.Launch

open Cert.OutFfnIdeal Cert.OutFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output window holds after the body at point `t`. -/
def tileAt (c : Dev nD) (t : Fin cfg0.N) : Vec F S8x128x1024 .f32 :=
  Body.stored (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The proof data: each input window at its block, the output window at its tile. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => tileAt m c t
  Φ _ := Pipeline.ΦA spec0 c
  q _ := fullShare
  owed _ := 0

/-- The arrays are as the region finds them. -/
theorem data_A (c : Dev nD) (w : Fin cfg0.W) : (data m 0 c).A w = V m c (Pipeline.arrRef spec0 w) := by
  dsimp only [data]

/-- Input window 0 keeps its block. -/
theorem kept_0 (c : Dev nD) (t : Fin cfg0.N) : (data m 0 c).after 0 t = iblk m c 0 t := by dsimp only [data]
/-- Input window 1 keeps its block. -/
theorem kept_1 (c : Dev nD) (t : Fin cfg0.N) : (data m 0 c).after 1 t = iblk m c 1 t := by dsimp only [data]
/-- Input window 2 keeps its block. -/
theorem kept_2 (c : Dev nD) (t : Fin cfg0.N) : (data m 0 c).after 2 t = iblk m c 2 t := by dsimp only [data]
/-- Input window 3 keeps its block. -/
theorem kept_3 (c : Dev nD) (t : Fin cfg0.N) : (data m 0 c).after 3 t = iblk m c 3 t := by dsimp only [data]
/-- Input window 4 keeps its block. -/
theorem kept_4 (c : Dev nD) (t : Fin cfg0.N) : (data m 0 c).after 4 t = iblk m c 4 t := by dsimp only [data]
/-- Input window 5 keeps its block. -/
theorem kept_5 (c : Dev nD) (t : Fin cfg0.N) : (data m 0 c).after 5 t = iblk m c 5 t := by dsimp only [data]
/-- Input window 6 keeps its block. -/
theorem kept_6 (c : Dev nD) (t : Fin cfg0.N) : (data m 0 c).after 6 t = iblk m c 6 t := by dsimp only [data]
/-- Input window 7 keeps its block. -/
theorem kept_7 (c : Dev nD) (t : Fin cfg0.N) : (data m 0 c).after 7 t = iblk m c 7 t := by dsimp only [data]
/-- Input window 8 keeps its block. -/
theorem kept_8 (c : Dev nD) (t : Fin cfg0.N) : (data m 0 c).after 8 t = iblk m c 8 t := by dsimp only [data]
/-- Input window 9 keeps its block. -/
theorem kept_9 (c : Dev nD) (t : Fin cfg0.N) : (data m 0 c).after 9 t = iblk m c 9 t := by dsimp only [data]
/-- Input window 10 keeps its block. -/
theorem kept_10 (c : Dev nD) (t : Fin cfg0.N) : (data m 0 c).after 10 t = iblk m c 10 t := by dsimp only [data]
/-- The output window ends at its tile. -/
theorem left_11 (c : Dev nD) (t : Fin cfg0.N) : (data m 0 c).after 11 t = tileAt m c t := by dsimp only [data]

/-- Input window 0 is found at its block. -/
theorem found_0 (c : Dev nD) (t : Fin cfg0.N) (d) : (data m 0 c).before 0 t d = iblk m c 0 t :=
  before0_0_of m (data m 0 c) (data_A m c 0) (kept_0 m c) t d
/-- Input window 1 is found at its block. -/
theorem found_1 (c : Dev nD) (t : Fin cfg0.N) (d) : (data m 0 c).before 1 t d = iblk m c 1 t :=
  before0_1_of m (data m 0 c) (data_A m c 1) (kept_1 m c) t d
/-- Input window 2 is found at its block. -/
theorem found_2 (c : Dev nD) (t : Fin cfg0.N) (d) : (data m 0 c).before 2 t d = iblk m c 2 t :=
  before0_2_of m (data m 0 c) (data_A m c 2) (kept_2 m c) t d
/-- Input window 3 is found at its block. -/
theorem found_3 (c : Dev nD) (t : Fin cfg0.N) (d) : (data m 0 c).before 3 t d = iblk m c 3 t :=
  before0_3_of m (data m 0 c) (data_A m c 3) (kept_3 m c) t d
/-- Input window 4 is found at its block. -/
theorem found_4 (c : Dev nD) (t : Fin cfg0.N) (d) : (data m 0 c).before 4 t d = iblk m c 4 t :=
  before0_4_of m (data m 0 c) (data_A m c 4) (kept_4 m c) t d
/-- Input window 5 is found at its block. -/
theorem found_5 (c : Dev nD) (t : Fin cfg0.N) (d) : (data m 0 c).before 5 t d = iblk m c 5 t :=
  before0_5_of m (data m 0 c) (data_A m c 5) (kept_5 m c) t d
/-- Input window 6 is found at its block. -/
theorem found_6 (c : Dev nD) (t : Fin cfg0.N) (d) : (data m 0 c).before 6 t d = iblk m c 6 t :=
  before0_6_of m (data m 0 c) (data_A m c 6) (kept_6 m c) t d
/-- Input window 7 is found at its block. -/
theorem found_7 (c : Dev nD) (t : Fin cfg0.N) (d) : (data m 0 c).before 7 t d = iblk m c 7 t :=
  before0_7_of m (data m 0 c) (data_A m c 7) (kept_7 m c) t d
/-- Input window 8 is found at its block. -/
theorem found_8 (c : Dev nD) (t : Fin cfg0.N) (d) : (data m 0 c).before 8 t d = iblk m c 8 t :=
  before0_8_of m (data m 0 c) (data_A m c 8) (kept_8 m c) t d
/-- Input window 9 is found at its block. -/
theorem found_9 (c : Dev nD) (t : Fin cfg0.N) (d) : (data m 0 c).before 9 t d = iblk m c 9 t :=
  before0_9_of m (data m 0 c) (data_A m c 9) (kept_9 m c) t d
/-- Input window 10 is found at its block. -/
theorem found_10 (c : Dev nD) (t : Fin cfg0.N) (d) : (data m 0 c).before 10 t d = iblk m c 10 t :=
  before0_10_of m (data m 0 c) (data_A m c 10) (kept_10 m c) t d

/-- What the body is called with at point `t`. -/
def entry (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d))
    ∗ (∃ d, owns (c : Thread nD τ) (st0_8 t) fullShare ((data m 0 c).before 8 t d))
    ∗ (∃ d, owns (c : Thread nD τ) (st0_9 t) fullShare ((data m 0 c).before 9 t d))
    ∗ (∃ d, owns (c : Thread nD τ) (st0_10 t) fullShare ((data m 0 c).before 10 t d))
    ∗ (∃ d, owns (c : Thread nD τ) (st0_11 t) fullShare ((data m 0 c).before 11 t d)))

/-- What it returns. -/
def exit (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t)
    ∗ owns (c : Thread nD τ) (st0_7 t) fullShare ((data m 0 c).after 7 t)
    ∗ owns (c : Thread nD τ) (st0_8 t) fullShare ((data m 0 c).after 8 t)
    ∗ owns (c : Thread nD τ) (st0_9 t) fullShare ((data m 0 c).after 9 t)
    ∗ owns (c : Thread nD τ) (st0_10 t) fullShare ((data m 0 c).after 10 t)
    ∗ owns (c : Thread nD τ) (st0_11 t) fullShare ((data m 0 c).after 11 t))

/-- The body at any point. -/
theorem sound (c : Dev nD) (t : Fin cfg0.N) :
    entry m c t ⊢ wp frame (wpE (defs₀ (F := F)) Variants.none c none) Set.univ (bodyAt0 t) (fun _ => exit m c t) := by
  unfold entry exit bodyAt0
  simp only [found_0, found_1, found_2, found_3, found_4, found_5, found_6, found_7, found_8, found_9, found_10]
  rw [show (data m 0 c).Φ t.succ = (data m 0 c).Φ t.castSucc from rfl,
    show (data m 0 c).owesAt () t.succ = (data m 0 c).owesAt () t.castSucc from rfl,
    kept_0, kept_1, kept_2, kept_3, kept_4, kept_5, kept_6, kept_7, kept_8, kept_9, kept_10, left_11]
  unfold tileAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (Body.body_run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`. -/
theorem row (t : Fin cfg0.N) : defs₀ (F := F) .tc cfg0.body (cfg0.bodyArgs t (cfg0.slots t)) = bodyAt0 t := by
  unfold defs₀; rw [Defs.onTc_tc]

/-- The pipeline's obligation on the body, at every point. -/
theorem obligation (c : Dev nD) : BodyObligation (data (F := F) m 0 c) (defs₀ (F := F)) Variants.none () Set.univ := fun t => by
  rw [bigSep_W0, bigSep_W0, row]
  exact triple_restated (sound m c t) rfl .rfl fun _ => .rfl

set_option backward.isDefEq.respectTransparency.types false in
/-- The launch: every array as the pipeline leaves it, every other buffer as the region found it, every counter at zero. -/
theorem run_quiescent : θ_run defs (onTc (τ := τ) (main (F := F))) (s₀ m ρ)
    (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hΦ := fun _ _ => rfl)

/-- The launch without the counters. -/
theorem run : θ_run defs (onTc (τ := τ) (main (F := F))) (s₀ m ρ) (Pipeline.FramePost cfgs (data m) 0 (V m)) :=
  (θ_run defs _ _).mono (fun _ h => h.1) (run_quiescent m ρ)

/-- The frame: the argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (data m) (data_A m) (run m ρ)) ((θ_run defs _ _).mono (fun _ h => h.2) (run_quiescent m ρ))

/-- The launch ends with the result array at its staged blocks, the arguments unchanged and the counters at zero. -/
theorem run_result : θ_run defs (onTc (τ := τ) (main (F := F))) ⟨m, fun _ => 0, ρ⟩ (fun r => ((∀ c : Dev nD,
      r.2.mem ((c.tc : Thread nD τ).loc main_v22) = (data m 0 c).arrAt 11 cfg0.N)
      ∧ (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)))
      ∧ r.2.sem = fun _ => 0) :=
  (θ_run defs _ _).mono (fun _ h => ⟨⟨fun c => (h.1 c).1 11, h.2.1⟩, h.2.2⟩) (θ_run_and (run m ρ) (frame m ρ))

/-! ## The output array, block by block -/

/-- Distinct points write distinct blocks. -/
theorem index_inj : ∀ t t' : Fin cfg0.N, win0_11.index t = win0_11.index t' → t = t' :=
  (by decide +kernel : ∀ t t' : Fin grid0.N, win0_11.index t = win0_11.index t' → t = t')

/-- Two points' blocks share no index. -/
theorem blocks_disjoint : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (index_inj t t' h)

/-- Block `t` of the final array is the tile of point `t`. -/
theorem block_eq (c : Dev nD) (t : Fin cfg0.N) :
    ((cfg0.win 11).blk t).view.read (Elt F) ((data m 0 c).arrAt 11 cfg0.N) = (cfg0.win 11).cut (grid0.coords t) (tileAt m c t) := by
  rw [(data m 0 c).read_blk_arrAt_eq_flushed 11 blocks_disjoint cfg0.N t t.isLt (flush0_11 t)]
  show (cfg0.win 11).cut (grid0.coords t) ((data m 0 c).after 11 t) = _
  rw [left_11]

end Cert.OutFfnIdeal.Launch

end
-- ==== Proof.OutRef.lean ====
/- The reference of the output call, read at a sequence `b`, a time `t` and a column: each stage as the token arithmetic. -/
module

public import proofs.«01_k».proof.Proof.Gen.OutFfnRefIdeal.Read
public import proofs.«01_k».proof.Proof.Token

@[expose] public section

set_option maxRecDepth 16384

noncomputable section

namespace Cert.OutFfnRefIdeal.At

open Cert.OutFfnRefIdeal Cert.OutFfnRefIdeal.Read Idealize.ShloMosaic

variable (x0 : FVec Ideal S8x4096x1024 .f32) (x1 x2 : FVec Ideal S8x4096x512 .f32) (x3 : FVec Ideal S1x512x512 .f32)
  (x4 : FVec Ideal S1x512 .f32) (x5 : FVec Ideal S1x1024x1024 .f32) (x6 : FVec Ideal S1x1024 .f32)
  (x7 x8 : FVec Ideal S1x1024x2816 .f32) (x9 : FVec Ideal S1x2816x1024 .f32) (x10 : FVec Ideal S1024 .f32)
  (b : Fin 8) (t : Fin 4096)

/-- The S5 channel after its output gate. -/
theorem gated_at (c : Fin 512) :
    val_main_v12 (F := Ideal) x1 x3 x4 (ix3 b t c)
      = Token.gated (fun c => x1 (ix3 b t c)) (fun k c => x3 (ix3 0 k c)) (fun c => x4 (ix2 0 c)) c := by
  pointwise [val_main_v12, val_main_v11, val_main_v10, val_main_cst_0, val_main_v9, val_main_v8, val_main_cst, val_main_v7,
    val_main_v6, val_main_v5, val_main_v4, val_main_v3, val_main_v2, val_main_v1, val_main_v0, Token.gated, Ideal.logistic]

/-- The joined mixers, the S5 half. -/
theorem joined_left (k : Fin 512) :
    val_main_v13 (F := Ideal) x1 x2 x3 x4 (ix3 b t (⟨k.val, by omega⟩ : Fin 1024)) = val_main_v12 (F := Ideal) x1 x3 x4 (ix3 b t k) := by
  have := k.isLt
  pointwise [val_main_v13]

/-- The joined mixers, the convolution half. -/
theorem joined_right (k : Fin 512) :
    val_main_v13 (F := Ideal) x1 x2 x3 x4 (ix3 b t (⟨512 + k.val, by omega⟩ : Fin 1024)) = x2 (ix3 b t k) := by
  have := k.isLt
  pointwise [val_main_v13]

/-- The token's residual stream after the mixers. -/
def mixedAt : Fin 1024 → EReal :=
  Token.mixed (fun j => x0 (ix3 b t j)) (fun c => x1 (ix3 b t c)) (fun c => x2 (ix3 b t c)) (fun k c => x3 (ix3 0 k c))
    (fun c => x4 (ix2 0 c)) (fun k j => x5 (ix3 0 k j))

/-- The stage after the mixers. -/
theorem mixed_at (j : Fin 1024) : val_main_v16 (F := Ideal) x0 x1 x2 x3 x4 x5 (ix3 b t j) = mixedAt x0 x1 x2 x3 x4 x5 b t j := by
  have h : val_main_v16 (F := Ideal) x0 x1 x2 x3 x4 x5 (ix3 b t j)
      = x0 (ix3 b t j) + ∑ k : Fin 1024, val_main_v13 (F := Ideal) x1 x2 x3 x4 (ix3 b t k) * x5 (ix3 0 k j) := by
    pointwise [val_main_v16, val_main_v15, val_main_v14]
  rw [h, ← Token.sum_halves, mixedAt, Token.mixed]
  simp only [joined_left, joined_right, gated_at]

/-- The token after the feed-forward half step. -/
def steppedAt : Fin 1024 → EReal :=
  Token.ffn (mixedAt x0 x1 x2 x3 x4 x5 b t) (fun j => x6 (ix2 0 j)) (fun k f => x7 (ix3 0 k f)) (fun k f => x8 (ix3 0 k f))
    (fun f j => x9 (ix3 0 f j))

/-- The normalised row before the feed-forward step. -/
theorem normed_at (j : Fin 1024) :
    val_main_v30 (F := Ideal) x0 x1 x2 x3 x4 x5 x6 (ix3 b t j)
      = mixedAt x0 x1 x2 x3 x4 x5 b t j * Token.rinv (mixedAt x0 x1 x2 x3 x4 x5 b t) * x6 (ix2 0 j) := by
  have h : val_main_v30 (F := Ideal) x0 x1 x2 x3 x4 x5 x6 (ix3 b t j)
      = val_main_v16 (F := Ideal) x0 x1 x2 x3 x4 x5 (ix3 b t j)
        * Token.rinv (fun k => val_main_v16 (F := Ideal) x0 x1 x2 x3 x4 x5 (ix3 b t k)) * x6 (ix2 0 j) := by
    pointwise [val_main_v30, val_main_v29, val_main_v28, val_main_v27, val_main_v26, val_main_v25, val_main_v24, val_main_v23,
      val_main_cst_3, val_main_v22, val_main_v21, val_main_cst_2, val_main_v20, val_main_v19, val_main_cst_1, val_main_v18,
      val_main_v17, Token.rinv]
  rw [h]; simp only [mixed_at]

/-- The hidden unit. -/
theorem hid_at (f : Fin 2816) :
    val_main_v37 (F := Ideal) x0 x1 x2 x3 x4 x5 x6 x7 x8 (ix3 b t f)
      = Token.hid (mixedAt x0 x1 x2 x3 x4 x5 b t) (fun j => x6 (ix2 0 j)) (fun k => x7 (ix3 0 k f)) (fun k => x8 (ix3 0 k f)) := by
  have h : val_main_v37 (F := Ideal) x0 x1 x2 x3 x4 x5 x6 x7 x8 (ix3 b t f)
      = (∑ k : Fin 1024, val_main_v30 (F := Ideal) x0 x1 x2 x3 x4 x5 x6 (ix3 b t k) * x7 (ix3 0 k f))
        * Ideal.logistic (∑ k : Fin 1024, val_main_v30 (F := Ideal) x0 x1 x2 x3 x4 x5 x6 (ix3 b t k) * x7 (ix3 0 k f))
        * ∑ k : Fin 1024, val_main_v30 (F := Ideal) x0 x1 x2 x3 x4 x5 x6 (ix3 b t k) * x8 (ix3 0 k f) := by
    pointwise [val_main_v37, val_main_v36, val_main_v35, val_main_call0_v5, val_main_call0_v4, val_main_call0_cst_0,
      val_main_call0_v3, val_main_call0_v2, val_main_call0_cst, val_main_call0_v1, val_main_call0_v0, val_main_v34,
      val_main_v32, val_main_v31, Ideal.logistic]
  rw [h, Token.hid]; simp only [normed_at]

/-- The stage after the feed-forward half step. -/
theorem stepped_at (j : Fin 1024) :
    val_main_v41 (F := Ideal) x0 x1 x2 x3 x4 x5 x6 x7 x8 x9 (ix3 b t j) = steppedAt x0 x1 x2 x3 x4 x5 x6 x7 x8 x9 b t j := by
  have h : val_main_v41 (F := Ideal) x0 x1 x2 x3 x4 x5 x6 x7 x8 x9 (ix3 b t j)
      = val_main_v16 (F := Ideal) x0 x1 x2 x3 x4 x5 (ix3 b t j) + Ideal.ofBits .f32 0x3F000000#32
        * ∑ f : Fin 2816, val_main_v37 (F := Ideal) x0 x1 x2 x3 x4 x5 x6 x7 x8 (ix3 b t f) * x9 (ix3 0 f j) := by
    pointwise [val_main_v41, val_main_v40, val_main_v39, val_main_cst_4, val_main_v38, val_main_v33]
  rw [h, steppedAt, Token.ffn]; simp only [hid_at, mixed_at]

/-- The reference's result. -/
theorem result_at (j : Fin 1024) :
    val_main_v54 (F := Ideal) x0 x1 x2 x3 x4 x5 x6 x7 x8 x9 x10 (ix3 b t j)
      = Token.normed (steppedAt x0 x1 x2 x3 x4 x5 x6 x7 x8 x9 b t) (fun j => x10 (ix1 j)) j := by
  have h : val_main_v54 (F := Ideal) x0 x1 x2 x3 x4 x5 x6 x7 x8 x9 x10 (ix3 b t j)
      = val_main_v41 (F := Ideal) x0 x1 x2 x3 x4 x5 x6 x7 x8 x9 (ix3 b t j)
        * Token.rinv (fun k => val_main_v41 (F := Ideal) x0 x1 x2 x3 x4 x5 x6 x7 x8 x9 (ix3 b t k)) * x10 (ix1 j) := by
    pointwise [val_main_v54, val_main_v53, val_main_v52, val_main_v51, val_main_v50, val_main_v49, val_main_v48, val_main_v47,
      val_main_cst_7, val_main_v46, val_main_v45, val_main_cst_6, val_main_v44, val_main_v43, val_main_cst_5, val_main_v42,
      Token.rinv]
  rw [h, Token.normed]; simp only [stepped_at]

end Cert.OutFfnRefIdeal.At

end
-- ==== Proof.OutValue.lean ====
/- The output call's result array over the extended reals: each element is the reference's. -/
module

public import proofs.«01_k».proof.Proof.OutLaunch
public import proofs.«01_k».proof.Proof.OutRef

@[expose] public section

set_option maxRecDepth 16384

noncomputable section

namespace Cert.OutFfnIdeal.Array

open Cert.OutFfnIdeal Cert.OutFfnIdeal.Gen Idealize.ShloMosaic Idealize.ShloMosaic.TcCoe Idealize.SL.Sem
open Idealize.ShloMosaic.Tactic

variable (m : (ℓ : Loc nD τ sig) → Buf (Elt Ideal) ℓ) (c : Dev nD)

/-! ## The blocks' places -/

/-- The token block of point `t` is time chunk `t`. -/
theorem index_tokens : ∀ t : Fin grid0.N, win0_0.index t = ![0, t.val, 0] := by decide +kernel
/-- The S5 slab block of point `t` is time chunk `t`. -/
theorem index_ys : ∀ t : Fin grid0.N, win0_1.index t = ![0, t.val, 0] := by decide +kernel
/-- The convolution slab block of point `t` is time chunk `t`. -/
theorem index_yc : ∀ t : Fin grid0.N, win0_2.index t = ![0, t.val, 0] := by decide +kernel
/-- The output block of point `t` is time chunk `t`. -/
theorem index_out : ∀ t : Fin grid0.N, win0_11.index t = ![0, t.val, 0] := by decide +kernel

/-! ## The host's preparation, read at an index -/

/-- The slabs: channel, chunk and sequence, lane. -/
theorem slab_apply (y : FVec Ideal S8x4096x512 .f32) (t : Fin 32) (s : Fin 8) (l : Fin 128) (ch : Fin 512) :
    shapeCast S512x256x128 (transpose S512x32x8x128 [3, 1, 0, 2] (shapeCast S8x32x128x512 y shapeCasts_S8x4096x512_S8x32x128x512)
        transposes_S8x32x128x512_S512x32x8x128_3_1_0_2) shapeCasts_S512x32x8x128_S512x256x128
        (ix3 ch (⟨8 * t.val + s.val, by omega⟩ : Fin 256) l)
      = y (ix3 s (⟨t.val * 128 + l.val, by omega⟩ : Fin 4096) ch) := by
  refine (shapeCast_apply _ _ _ (ix4 ch t s l) ?_).trans ?_
  · rw [Shape.rowMajor_val_four, Shape.rowMajor_val_three]
    show ((ch.val * 32 + t.val) * 8 + s.val) * 128 + l.val = (ch.val * 256 + (8 * t.val + s.val)) * 128 + l.val
    ring
  refine Eq.trans (b := shapeCast S8x32x128x512 y shapeCasts_S8x4096x512_S8x32x128x512 (ix4 s t l ch)) (by pointwise) ?_
  refine shapeCast_apply _ _ _ _ ?_
  rw [Shape.rowMajor_val_four, Shape.rowMajor_val_three]
  show (s.val * 4096 + (t.val * 128 + l.val)) * 512 + ch.val = ((s.val * 32 + t.val) * 128 + l.val) * 512 + ch.val
  ring

/-! ## The input blocks at the program's arguments -/

/-- The token block. -/
theorem tokens_apply (t : Fin grid0.N) (s : Fin 8) (l : Fin 128) (j : Fin 1024) :
    iblk m c 0 t (ix3 s l j) = m ((c : Thread nD τ).loc main_arg0) (ix3 s (⟨t.val * 128 + l.val, by have : t.val < 32 := t.isLt; omega⟩ : Fin 4096) j) := by
  rw [← V_main_arg0 m c]
  refine congrArg (V m c main_arg0) (funext fun a => Fin.ext ?_)
  show win0_0.index t a * S8x128x1024.size a + 1 * _ = _
  rw [index_tokens]
  match a with
  | ⟨0, _⟩ => show 0 * 8 + 1 * s.val = s.val; omega
  | ⟨1, _⟩ => show t.val * 128 + 1 * l.val = t.val * 128 + l.val; omega
  | ⟨2, _⟩ => show 0 * 1024 + 1 * j.val = j.val; omega

/-- The S5 slab block. -/
theorem ys_apply (t : Fin grid0.N) (s : Fin 8) (l : Fin 128) (ch : Fin 512) :
    iblk m c 1 t (ix3 ch s l) = m ((c : Thread nD τ).loc main_arg1) (ix3 s (⟨t.val * 128 + l.val, by have : t.val < 32 := t.isLt; omega⟩ : Fin 4096) ch) := by
  have e : V m c main_v2 (ix3 ch (⟨8 * t.val + s.val, by have : t.val < 32 := t.isLt; omega⟩ : Fin 256) l)
      = m ((c : Thread nD τ).loc main_arg1) (ix3 s (⟨t.val * 128 + l.val, by have : t.val < 32 := t.isLt; omega⟩ : Fin 4096) ch) := by
    entry_read
    exact slab_apply _ t s l ch
  rw [← e]
  refine congrArg (V m c main_v2) (funext fun a => Fin.ext ?_)
  show win0_1.index t a * S512x8x128.size a + 1 * _ = _
  rw [index_ys]
  match a with
  | ⟨0, _⟩ => show 0 * 512 + 1 * ch.val = ch.val; omega
  | ⟨1, _⟩ => show t.val * 8 + 1 * s.val = 8 * t.val + s.val; omega
  | ⟨2, _⟩ => show 0 * 128 + 1 * l.val = l.val; omega

/-- The convolution slab block. -/
theorem yc_apply (t : Fin grid0.N) (s : Fin 8) (l : Fin 128) (ch : Fin 512) :
    iblk m c 2 t (ix3 ch s l) = m ((c : Thread nD τ).loc main_arg2) (ix3 s (⟨t.val * 128 + l.val, by have : t.val < 32 := t.isLt; omega⟩ : Fin 4096) ch) := by
  have e : V m c main_v5 (ix3 ch (⟨8 * t.val + s.val, by have : t.val < 32 := t.isLt; omega⟩ : Fin 256) l)
      = m ((c : Thread nD τ).loc main_arg2) (ix3 s (⟨t.val * 128 + l.val, by have : t.val < 32 := t.isLt; omega⟩ : Fin 4096) ch) := by
    entry_read
    exact slab_apply _ t s l ch
  rw [← e]
  refine congrArg (V m c main_v5) (funext fun a => Fin.ext ?_)
  show win0_2.index t a * S512x8x128.size a + 1 * _ = _
  rw [index_yc]
  match a with
  | ⟨0, _⟩ => show 0 * 512 + 1 * ch.val = ch.val; omega
  | ⟨1, _⟩ => show t.val * 8 + 1 * s.val = 8 * t.val + s.val; omega
  | ⟨2, _⟩ => show 0 * 128 + 1 * l.val = l.val; omega

/-- The glu weights: the whole array at every point. -/
theorem wglu_apply (t : Fin grid0.N) (k : Fin 512) (j : Fin 512) :
    iblk m c 3 t (ix2 k j) = m ((c : Thread nD τ).loc main_arg3) (ix3 0 j k) := by
  have e : V m c main_v8 (ix2 k j) = m ((c : Thread nD τ).loc main_arg3) (ix3 0 j k) := by
    entry_read
    pointwise
  rw [← e]
  exact congrArg (V m c main_v8) (funext fun a => Fin.ext (by
    match a with
    | ⟨0, _⟩ => show 0 * 512 + 1 * k.val = k.val; omega
    | ⟨1, _⟩ => show 0 * 512 + 1 * j.val = j.val; omega))

/-- The glu bias: the whole array at every point. -/
theorem bias_apply (t : Fin grid0.N) (k : Fin 512) (j : Fin 1) :
    iblk m c 4 t (ix2 k j) = m ((c : Thread nD τ).loc main_arg4) (ix2 0 k) := by
  have e : V m c main_v10 (ix2 k j) = m ((c : Thread nD τ).loc main_arg4) (ix2 0 k) := by
    entry_read
    pointwise
  rw [← e]
  exact congrArg (V m c main_v10) (funext fun a => Fin.ext (by
    match a with
    | ⟨0, _⟩ => show 0 * 512 + 1 * k.val = k.val; omega
    | ⟨1, _⟩ => show 0 * 1 + 1 * j.val = j.val; omega))

/-- The output projection: the whole array at every point. -/
theorem wout_apply (t : Fin grid0.N) (k : Fin 1024) (j : Fin 1024) :
    iblk m c 5 t (ix2 k j) = m ((c : Thread nD τ).loc main_arg5) (ix3 0 k j) := by
  have e : V m c main_v12 (ix2 k j) = m ((c : Thread nD τ).loc main_arg5) (ix3 0 k j) := by
    entry_read
    pointwise
  rw [← e]
  exact congrArg (V m c main_v12) (funext fun a => Fin.ext (by
    match a with
    | ⟨0, _⟩ => show 0 * 1024 + 1 * k.val = k.val; omega
    | ⟨1, _⟩ => show 0 * 1024 + 1 * j.val = j.val; omega))

/-- The feed-forward norm's gain: the whole array at every point. -/
theorem gain_apply (t : Fin grid0.N) (k : Fin 1) (j : Fin 1024) :
    iblk m c 6 t (ix2 k j) = m ((c : Thread nD τ).loc main_arg6) (ix2 0 j) := by
  have e : V m c main_v14 (ix2 k j) = m ((c : Thread nD τ).loc main_arg6) (ix2 0 j) := by
    entry_read
    pointwise
  rw [← e]
  exact congrArg (V m c main_v14) (funext fun a => Fin.ext (by
    match a with
    | ⟨0, _⟩ => show 0 * 1 + 1 * k.val = k.val; omega
    | ⟨1, _⟩ => show 0 * 1024 + 1 * j.val = j.val; omega))

/-- The gate weights: the whole array at every point. -/
theorem wgate_apply (t : Fin grid0.N) (k : Fin 1024) (j : Fin 2816) :
    iblk m c 7 t (ix2 k j) = m ((c : Thread nD τ).loc main_arg7) (ix3 0 k j) := by
  have e : V m c main_v16 (ix2 k j) = m ((c : Thread nD τ).loc main_arg7) (ix3 0 k j) := by
    entry_read
    pointwise
  rw [← e]
  exact congrArg (V m c main_v16) (funext fun a => Fin.ext (by
    match a with
    | ⟨0, _⟩ => show 0 * 1024 + 1 * k.val = k.val; omega
    | ⟨1, _⟩ => show 0 * 2816 + 1 * j.val = j.val; omega))

/-- The up weights: the whole array at every point. -/
theorem wup_apply (t : Fin grid0.N) (k : Fin 1024) (j : Fin 2816) :
    iblk m c 8 t (ix2 k j) = m ((c : Thread nD τ).loc main_arg8) (ix3 0 k j) := by
  have e : V m c main_v18 (ix2 k j) = m ((c : Thread nD τ).loc main_arg8) (ix3 0 k j) := by
    entry_read
    pointwise
  rw [← e]
  exact congrArg (V m c main_v18) (funext fun a => Fin.ext (by
    match a with
    | ⟨0, _⟩ => show 0 * 1024 + 1 * k.val = k.val; omega
    | ⟨1, _⟩ => show 0 * 2816 + 1 * j.val = j.val; omega))

/-- The down weights: the whole array at every point. -/
theorem wdown_apply (t : Fin grid0.N) (k : Fin 2816) (j : Fin 1024) :
    iblk m c 9 t (ix2 k j) = m ((c : Thread nD τ).loc main_arg9) (ix3 0 k j) := by
  have e : V m c main_v20 (ix2 k j) = m ((c : Thread nD τ).loc main_arg9) (ix3 0 k j) := by
    entry_read
    pointwise
  rw [← e]
  exact congrArg (V m c main_v20) (funext fun a => Fin.ext (by
    match a with
    | ⟨0, _⟩ => show 0 * 2816 + 1 * k.val = k.val; omega
    | ⟨1, _⟩ => show 0 * 1024 + 1 * j.val = j.val; omega))

/-- The final norm's gain: the whole array at every point. -/
theorem gainf_apply (t : Fin grid0.N) (k : Fin 1) (j : Fin 1024) :
    iblk m c 10 t (ix2 k j) = m ((c : Thread nD τ).loc main_arg10) (ix1 j) := by
  have e : V m c main_v21 (ix2 k j) = m ((c : Thread nD τ).loc main_arg10) (ix1 j) := by
    entry_read
    pointwise
  rw [← e]
  exact congrArg (V m c main_v21) (funext fun a => Fin.ext (by
    match a with
    | ⟨0, _⟩ => show 0 * 1 + 1 * k.val = k.val; omega
    | ⟨1, _⟩ => show 0 * 1024 + 1 * j.val = j.val; omega))

end Cert.OutFfnIdeal.Array

end
-- ==== Proof.OutFinal.lean ====
/- The output call's result array is the reference's result. -/
module

public import proofs.«01_k».proof.Proof.OutValue

@[expose] public section

set_option maxRecDepth 16384

noncomputable section

namespace Cert.OutFfnIdeal.Array

open Cert.OutFfnIdeal Cert.OutFfnIdeal.Gen Idealize.ShloMosaic Idealize.ShloMosaic.TcCoe Idealize.SL.Sem
open Cert.OutFfnIdeal.Launch Cert.OutFfnRefIdeal.Read

variable (m : (ℓ : Loc nD τ sig) → Buf (Elt Ideal) ℓ) (c : Dev nD)

/-- The reference's result at the program's arguments. -/
def expected : FVec Ideal S8x4096x1024 .f32 :=
  val_main_v54 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- A merged slab block at a sequence and a lane. -/
theorem merged_apply (x : Vec Ideal S512x8x128 .f32) (k : Fin 512) (s : Fin 8) (l : Fin 128) :
    Body.merged x (ix2 k (⟨s.val * 128 + l.val, by omega⟩ : Fin 1024)) = x (ix3 k s l) := by
  unfold Body.merged
  congr 1
  refine congrArg₂ (ix3 k) (Fin.ext ?_) (Fin.ext ?_)
  · show (s.val * 128 + l.val) / 128 = s.val; omega
  · show (s.val * 128 + l.val) % 128 = l.val; omega

/-- Point `t`'s tile holds the reference's rows of its time chunk. -/
theorem tile_apply (t : Fin grid0.N) (s : Fin 8) (l : Fin 128) (j : Fin 1024) :
    tileAt m c t (ix3 s l j) = expected m c (ix3 s (⟨t.val * 128 + l.val, by have : t.val < 32 := t.isLt; omega⟩ : Fin 4096) j) := by
  unfold tileAt Body.stored
  rw [Tile.tileOf_apply _ _ _ _ _ _ _ _ _ _ _ _ _ _ _ (fun k j => m ((c : Thread nD τ).loc main_arg5) (ix3 0 k j))
    (fun k j => m ((c : Thread nD τ).loc main_arg7) (ix3 0 k j)) (fun k j => m ((c : Thread nD τ).loc main_arg8) (ix3 0 k j))
    (fun k j => m ((c : Thread nD τ).loc main_arg9) (ix3 0 k j))
    (fun k j => (by pointwise : _ = iblk m c 5 t (ix2 (⟨k.val, by omega⟩ : Fin 1024) j)).trans (wout_apply m c t _ j))
    (fun k j => (by pointwise : _ = iblk m c 5 t (ix2 (⟨512 + k.val, by omega⟩ : Fin 1024) j)).trans (wout_apply m c t _ j))
    (fun k j => (by pointwise : _ = iblk m c 7 t (ix2 k (⟨j.val, by omega⟩ : Fin 2816))).trans (wgate_apply m c t _ _))
    (fun k j => (by pointwise : _ = iblk m c 7 t (ix2 k (⟨1536 + j.val, by omega⟩ : Fin 2816))).trans (wgate_apply m c t _ _))
    (fun k j => (by pointwise : _ = iblk m c 8 t (ix2 k (⟨j.val, by omega⟩ : Fin 2816))).trans (wup_apply m c t _ _))
    (fun k j => (by pointwise : _ = iblk m c 8 t (ix2 k (⟨1536 + j.val, by omega⟩ : Fin 2816))).trans (wup_apply m c t _ _))
    (fun k j => (by pointwise : _ = iblk m c 9 t (ix2 (⟨k.val, by omega⟩ : Fin 2816) j)).trans (wdown_apply m c t _ _))
    (fun k j => (by pointwise : _ = iblk m c 9 t (ix2 (⟨1536 + k.val, by omega⟩ : Fin 2816) j)).trans (wdown_apply m c t _ _))]
  rw [expected, Cert.OutFfnRefIdeal.At.result_at, Cert.OutFfnRefIdeal.At.steppedAt, Cert.OutFfnRefIdeal.At.mixedAt]
  have h0 := fun j => (by pointwise : View.ld (iblk m c 0 t) (Rect.unit (s := S8x128x1024) ![0, 0, 0] S8x128x1024.size inb_S8x128x1024_S8x128x1024_0_0_0) (ix3 s l j)
    = iblk m c 0 t (ix3 s l j)).trans (tokens_apply m c t s l j)
  have h3 := fun k j => (by pointwise : View.ld (iblk m c 3 t) (Rect.unit (s := S512x512) ![0, 0] S512x512.size inb_S512x512_S512x512_0_0) (ix2 k j)
    = iblk m c 3 t (ix2 k j)).trans (wglu_apply m c t k j)
  have h4 := fun k => (by pointwise : View.ld (iblk m c 4 t) (Rect.unit (s := S512x1) ![0, 0] S512x1.size inb_S512x1_S512x1_0_0) (ix2 k 0)
    = iblk m c 4 t (ix2 k 0)).trans (bias_apply m c t k 0)
  have h6 := fun j => (by pointwise : View.ld (iblk m c 6 t) (Rect.unit (s := S1x1024) ![0, 0] S1x1024.size inb_S1x1024_S1x1024_0_0) (ix2 0 j)
    = iblk m c 6 t (ix2 0 j)).trans (gain_apply m c t 0 j)
  have h10 := fun j => (by pointwise : View.ld (iblk m c 10 t) (Rect.unit (s := S1x1024) ![0, 0] S1x1024.size inb_S1x1024_S1x1024_0_0) (ix2 0 j)
    = iblk m c 10 t (ix2 0 j)).trans (gainf_apply m c t 0 j)
  simp only [h0, h3, h4, h6, h10, merged_apply, ys_apply, yc_apply]

/-- The result array. -/
theorem result_eq : (data m 0 c).arrAt 11 cfg0.N = expected m c := by
  funext i
  have h1 : (i 1).val < 4096 := (i 1).isLt
  let t : Fin grid0.N := ⟨(i 1).val / 128, by show (i 1).val / 128 < 32; omega⟩
  let l : Fin 128 := ⟨(i 1).val % 128, by omega⟩
  have e : ix3 (i 0 : Fin 8) (⟨t.val * 128 + l.val, by show (i 1).val / 128 * 128 + (i 1).val % 128 < 4096; omega⟩ : Fin 4096) (i 2 : Fin 1024) = i :=
    (congrArg (fun y => ix3 (i 0 : Fin 8) y (i 2 : Fin 1024)) (Fin.ext (Nat.div_add_mod' _ _))).trans (eq_ix3 i).symm
  have hb := congrFun (block_eq m c t) (ix3 (i 0 : Fin 8) l (i 2 : Fin 1024))
  have ht := tile_apply m c t (i 0) l (i 2)
  replace ht := ht.trans (congrArg (expected m c) e)
  refine Eq.trans (congrArg _ ?_) (hb.trans ht)
  refine e.symm.trans (funext fun a => Fin.ext ?_)
  show _ = win0_11.index t a * S8x128x1024.size a + 1 * _
  rw [index_out]
  match a with
  | ⟨0, _⟩ => show (i 0).val = 0 * 8 + 1 * (i 0).val; omega
  | ⟨1, _⟩ => show t.val * 128 + l.val = t.val * 128 + 1 * l.val; omega
  | ⟨2, _⟩ => show (i 2).val = 0 * 1024 + 1 * (i 2).val; omega

end Cert.OutFfnIdeal.Array

end
-- ==== Proof.FfnRun.lean ====
/- The body of the input call, run once on whole staging memrefs over any float values: what its stores leave in the output windows. -/
module

public import proofs.«01_k».proof.Proof.Gen.FfnInIdeal.Skeleton
public import proofs.«01_k».proof.Proof.Gen.FfnInIdeal.Frame

@[expose] public section

set_option maxRecDepth 16384

noncomputable section

namespace Cert.FfnInIdeal.Run

open Cert.FfnInIdeal Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 80000000 in
/-- What the body stores in the seven output windows, as lists of pieces (the two slab windows seen as matrices of
    rows, `M12` and `M13`), with the proof that on whole staging memrefs (the inputs' at their contents, the outputs' at
    anything) the body runs to its end, the inputs kept and the pieces written. -/
def bodyRun (c : Dev nD) (i : grid0.Coords) (arg2 : Memref sig .tc .vmem S8x128x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1536x1024 .bf16) (harg8 : arg8.IsWhole) (arg9 : Memref sig .tc .vmem S32x2816 .f32) (harg9 : arg9.IsWhole) (arg10 : Memref sig .tc .vmem S32x2816 .f32) (harg10 : arg10.IsWhole) (arg11 : Memref sig .tc .vmem S176x1024 .f32) (harg11 : arg11.IsWhole) (arg12 : Memref sig .tc .vmem S32x1024 .f32) (harg12 : arg12.IsWhole) (arg13 : Memref sig .tc .vmem S8x128x1024 .f32) (harg13 : arg13.IsWhole) (arg14 : Memref sig .tc .vmem S512x8x128 .f32) (harg14 : arg14.IsWhole) (arg15 : Memref sig .tc .vmem S512x8x128 .f32) (harg15 : arg15.IsWhole) (arg16 : Memref sig .tc .vmem S32x2816 .bf16) (harg16 : arg16.IsWhole) (arg17 : Memref sig .tc .vmem S32x2816 .bf16) (harg17 : arg17.IsWhole) (arg18 : Memref sig .tc .vmem S176x1024 .bf16) (harg18 : arg18.IsWhole) (arg19 : Memref sig .tc .vmem S32x1024 .bf16) (harg19 : arg19.IsWhole)
    (M12 : Memref sig .tc .vmem S4096x128 .f32) (hM12 : (arg14.reshape S4096x128 reshapes_S512x8x128_S4096x128.1 reshapes_S512x8x128_S4096x128.2 harg14.contiguous) = M12) (M13 : Memref sig .tc .vmem S4096x128 .f32) (hM13 : (arg15.reshape S4096x128 reshapes_S512x8x128_S4096x128.1 reshapes_S512x8x128_S4096x128.2 harg15.contiguous) = M13)
    (x0 : Vec F S8x128x1024 .f32) (x1 : Vec F S1x1024 .f32) (x2 : Vec F S1024x2816 .bf16) (x3 : Vec F S1024x2816 .bf16) (x4 : Vec F S2816x1024 .bf16) (x5 : Vec F S1x1024 .f32) (x6 : Vec F S1536x1024 .bf16) (x7 : Vec F S32x2816 .f32) (x8 : Vec F S32x2816 .f32) (x9 : Vec F S176x1024 .f32) (x10 : Vec F S32x1024 .f32) :
    { L : List (View.Piece (Elt F) S8x128x1024 .f32) × List (View.Piece (Elt F) S4096x128 .f32) × List (View.Piece (Elt F) S4096x128 .f32) × List (View.Piece (Elt F) S32x2816 .bf16) × List (View.Piece (Elt F) S32x2816 .bf16) × List (View.Piece (Elt F) S176x1024 .bf16) × List (View.Piece (Elt F) S32x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} f) ∗ (∃ f, M12.view.loc (c : Thread nD τ) ↦[M12.view.set]{fullShare} f) ∗ (∃ f, M13.view.loc (c : Thread nD τ) ↦[M13.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L.1) ∗ (∃ f, M12.view.loc (c : Thread nD τ) ↦[M12.view.set]{fullShare} M12.view.writes (Elt F) f L.2.1) ∗ (∃ f, M13.view.loc (c : Thread nD τ) ↦[M13.view.set]{fullShare} M13.view.writes (Elt F) f L.2.2.1) ∗ (∃ f, arg16.view.loc (c : Thread nD τ) ↦[arg16.view.set]{fullShare} arg16.view.writes (Elt F) f L.2.2.2.1) ∗ (∃ f, arg17.view.loc (c : Thread nD τ) ↦[arg17.view.set]{fullShare} arg17.view.writes (Elt F) f L.2.2.2.2.1) ∗ (∃ f, arg18.view.loc (c : Thread nD τ) ↦[arg18.view.set]{fullShare} arg18.view.writes (Elt F) f L.2.2.2.2.2.1) ∗ (∃ f, arg19.view.loc (c : Thread nD τ) ↦[arg19.view.set]{fullShare} arg19.view.writes (Elt F) f L.2.2.2.2.2.2)) -∗ K ⟨⟩))
          ⊢ wp frame (wpE (defs₀ (F := F)) Variants.none c none) E (cc0_ffn1_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨⟨?_, ?_, ?_, ?_, ?_, ?_, ?_⟩, fun E K => ?run⟩
  case run =>
    simp only [cc0_ffn1_in_proj_eq_skeleton]; unfold cc0_ffn1_in_proj_skel
    simp only [k0_part174_eq_skeleton, k0_part175_eq_skeleton, k0_part176_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton]
    unfold k0_part174_skel k0_part175_skel k0_part176_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton]
    unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel k0_part61_skel k0_part62_skel k0_part63_skel k0_part64_skel k0_part65_skel k0_part66_skel k0_part67_skel k0_part68_skel k0_part69_skel k0_part70_skel k0_part71_skel k0_part72_skel k0_part73_skel k0_part74_skel k0_part75_skel k0_part76_skel k0_part77_skel k0_part78_skel k0_part79_skel k0_part80_skel k0_part81_skel k0_part82_skel k0_part83_skel k0_part84_skel k0_part85_skel k0_part86_skel k0_part87_skel k0_part88_skel k0_part89_skel k0_part90_skel k0_part91_skel k0_part92_skel k0_part93_skel k0_part94_skel k0_part95_skel k0_part96_skel k0_part97_skel k0_part98_skel k0_part99_skel k0_part100_skel k0_part101_skel k0_part102_skel k0_part103_skel k0_part104_skel k0_part105_skel k0_part106_skel k0_part107_skel k0_part108_skel k0_part109_skel k0_part110_skel k0_part111_skel k0_part112_skel k0_part113_skel k0_part114_skel k0_part115_skel k0_part116_skel k0_part117_skel k0_part118_skel k0_part119_skel k0_part120_skel k0_part121_skel k0_part122_skel k0_part123_skel k0_part124_skel k0_part125_skel k0_part126_skel k0_part127_skel k0_part128_skel k0_part129_skel k0_part130_skel k0_part131_skel k0_part132_skel k0_part133_skel k0_part134_skel k0_part135_skel k0_part136_skel k0_part137_skel k0_part138_skel k0_part139_skel k0_part140_skel k0_part141_skel k0_part142_skel k0_part143_skel k0_part144_skel k0_part145_skel k0_part146_skel k0_part147_skel k0_part148_skel k0_part149_skel k0_part150_skel k0_part151_skel k0_part152_skel k0_part153_skel k0_part154_skel k0_part155_skel k0_part156_skel k0_part157_skel k0_part158_skel k0_part159_skel k0_part160_skel k0_part161_skel k0_part162_skel k0_part163_skel k0_part164_skel k0_part165_skel k0_part166_skel k0_part167_skel k0_part168_skel k0_part169_skel k0_part170_skel k0_part171_skel k0_part172_skel k0_part173_skel
    simp only [hM12, hM13]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, H11⟩, ⟨%f12, H12⟩, ⟨%f13, H13⟩, ⟨%f14, H14⟩, ⟨%f15, H15⟩, ⟨%f16, H16⟩, ⟨%f17, H17⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; iexact H11
    isplitl [H12]
    · iexists _; iexact H12
    isplitl [H13]
    · iexists _; iexact H13
    isplitl [H14]
    · iexists _; iexact H14
    isplitl [H15]
    · iexists _; iexact H15
    isplitl [H16]
    · iexists _; iexact H16
    iexists _; iexact H17

end Cert.FfnInIdeal.Run

end
-- ==== Proof.FfnSlab.lean ====
/- The input call's slab stores: strided stores of a matrix's 8 by 128 pieces into a slab window leave the matrix with its
   rows split into sequence and lane. -/
module

public import proofs.«01_k».proof.Proof.Gen.FfnInIdeal.Skeleton
public import Idealize.ShloMosaic.Lib.Pointwise
public import Idealize.ShloMosaic.Lib.Pipeline.Value

@[expose] public section

set_option maxRecDepth 16384

noncomputable section

namespace Cert.FfnInIdeal.Slab

open Cert.FfnInIdeal Cert.FfnInIdeal.Gen Idealize.ShloMosaic

variable {F : FTy → Type} [FloatOps F]

/-- Every 8 by 128 piece lies inside the matrix. -/
theorem fits : ∀ (r : Fin 64) (s : Fin 8), S512x1024.Slices ![8 * r.val, 128 * s.val] S8x128 := by decide +kernel

/-- One strided store: 8 channels of one sequence. -/
def strip (i : grid0.Coords) (u : FVec F S512x1024 .f32) (r : Fin 64) (s : Fin 8) : View.Piece (Elt F) S4096x128 .f32 :=
  ⟨⟨⟨k0_off1 i (BitVec.ofNat 32 (64 * r.val)) (BitVec.ofNat 32 s.val), S8x128.size, ![8, 1], k0_off1_inb i r s⟩, spos_8_1⟩,
    extractStridedSlice S8x128 ![8 * r.val, 128 * s.val] u (fits r s)⟩

/-- All the stores of a slab, the last first. -/
def strips (i : grid0.Coords) (u : FVec F S512x1024 .f32) : List (View.Piece (Elt F) S4096x128 .f32) :=
  List.ofFn fun k : Fin 512 => strip i u ⟨(511 - k.val) / 8, by omega⟩ ⟨(511 - k.val) % 8, by omega⟩

/-- The slab's rows: channel and sequence merged. -/
def rows (u : FVec F S512x1024 .f32) : Vec F S4096x128 .f32 := fun y =>
  u (ix2 (⟨(y 0).val / 8, by have : (y 0).val < 4096 := (y 0).isLt; omega⟩ : Fin 512)
    (⟨(y 0).val % 8 * 128 + (y 1).val, by have : (y 1).val < 128 := (y 1).isLt; omega⟩ : Fin 1024))

/-- The slab: channel, sequence, lane. -/
def slab (u : FVec F S512x1024 .f32) : Vec F S512x8x128 .f32 := fun j =>
  u (ix2 (j 0 : Fin 512) (⟨(j 1).val * 128 + (j 2).val, by
    have h1 : (j 1).val < 8 := (j 1).isLt
    have h2 : (j 2).val < 128 := (j 2).isLt
    omega⟩ : Fin 1024))

/-- A slab at a channel, a sequence and a lane. -/
theorem slab_apply (u : FVec F S512x1024 .f32) (ch : Fin 512) (s : Fin 8) (l : Fin 128) :
    slab u (ix3 ch s l) = u (ix2 ch (⟨s.val * 128 + l.val, by omega⟩ : Fin 1024)) := rfl

/-- A store's first row. -/
theorem off_eq (i : grid0.Coords) (r : Fin 64) (s : Fin 8) :
    k0_off1 i (BitVec.ofNat 32 (64 * r.val)) (BitVec.ofNat 32 s.val) = ![64 * r.val + s.val, 0] := by
  have hi : (i 1).val = 0 := by have : (i 1).val < 1 := (i 1).isLt; omega
  rw [k0_off1_eq, hi]
  rfl

/-- The row a store's element lands in. -/
theorem emb_row (i : grid0.Coords) (u : FVec F S512x1024 .f32) (r : Fin 64) (s : Fin 8) (j : S8x128.Idx) :
    ((strip i u r s).1.emb j 0).val = 64 * r.val + s.val + 8 * (j 0).val := by
  show k0_off1 i (BitVec.ofNat 32 (64 * r.val)) (BitVec.ofNat 32 s.val) 0 + 8 * (j 0).val = _
  rw [off_eq]
  rfl

/-- The lane a store's element lands in. -/
theorem emb_lane (i : grid0.Coords) (u : FVec F S512x1024 .f32) (r : Fin 64) (s : Fin 8) (j : S8x128.Idx) :
    ((strip i u r s).1.emb j 1).val = (j 1).val := by
  show k0_off1 i (BitVec.ofNat 32 (64 * r.val)) (BitVec.ofNat 32 s.val) 1 + 1 * (j 1).val = _
  rw [off_eq]
  show 0 + 1 * (j 1).val = _
  omega

/-- Each store puts the slab's own elements. -/
theorem strip_agrees (i : grid0.Coords) (u : FVec F S512x1024 .f32) (r : Fin 64) (s : Fin 8) (j : S8x128.Idx) :
    (strip i u r s).2 j = rows u ((strip i u r s).1.emb j) := by
  have h0 : (j 0).val < 8 := (j 0).isLt
  have h1 : (j 1).val < 128 := (j 1).isLt
  refine extractStridedSlice_apply _ u (fits r s) j _ fun a => ?_
  match a with
  | ⟨0, _⟩ =>
    show ((strip i u r s).1.emb j 0).val / 8 = 8 * r.val + (j 0).val
    rw [emb_row]; omega
  | ⟨1, _⟩ =>
    show ((strip i u r s).1.emb j 0).val % 8 * 128 + ((strip i u r s).1.emb j 1).val = 128 * s.val + (j 1).val
    rw [emb_row, emb_lane]; omega

/-- The stores cover every row. -/
theorem covered (i : grid0.Coords) (u : FVec F S512x1024 .f32) (y : S4096x128.Idx) : ∃ p ∈ strips i u, y ∈ p.1.set := by
  have h0 : (y 0).val < 4096 := (y 0).isLt
  have h1 : (y 1).val < 128 := (y 1).isLt
  let k : Fin 512 := ⟨511 - (8 * ((y 0).val / 64) + (y 0).val % 8), by omega⟩
  refine ⟨_, List.mem_ofFn.mpr ⟨k, rfl⟩, ?_⟩
  let j : S8x128.Idx := ix2 (⟨(y 0).val % 64 / 8, by omega⟩ : Fin 8) (⟨(y 1).val, h1⟩ : Fin 128)
  have e : (strip i u (⟨(511 - k.val) / 8, by omega⟩ : Fin 64) (⟨(511 - k.val) % 8, by omega⟩ : Fin 8)).1.emb j = y := by
    funext a
    refine Fin.ext ?_
    match a with
    | ⟨0, _⟩ =>
      refine (emb_row i u _ _ j).trans ?_
      show 64 * ((511 - (511 - (8 * ((y 0).val / 64) + (y 0).val % 8))) / 8) + (511 - (511 - (8 * ((y 0).val / 64) + (y 0).val % 8))) % 8
        + 8 * ((y 0).val % 64 / 8) = (y 0).val
      omega
    | ⟨1, _⟩ => exact emb_lane i u _ _ j
  rw [← e]
  exact LoadRect.idx_mem (strip i u (⟨(511 - k.val) / 8, by omega⟩ : Fin 64) (⟨(511 - k.val) % 8, by omega⟩ : Fin 8)).1.toLoadRect j

/-- What the rows hold after the stores, whatever they held before. -/
theorem canon_strips (i : grid0.Coords) (u : FVec F S512x1024 .f32) : View.canon (strips i u) = rows u := by
  funext y
  refine View.canon_apply_of_pieces (rows u) (strips i u) (fun p hp x => ?_) y (covered i u y)
  obtain ⟨k, rfl⟩ := List.mem_ofFn.mp hp
  exact strip_agrees i u _ _ x

/-- After the stores into the rows of a slab window, the window reads the slab. -/
theorem read_strips (i : grid0.Coords) (u : FVec F S512x1024 .f32) (arg : Memref sig .tc .vmem S512x8x128 .f32) (harg : arg.IsWhole)
    (f : arg.view.ty.Contents (Elt F)) :
    arg.view.read (Elt F) ((arg.reshape S4096x128 reshapes_S512x8x128_S4096x128.1 reshapes_S512x8x128_S4096x128.2 harg.contiguous).view.writes
      (Elt F) f (strips i u)) = slab u := by
  have h := View.read_writes_eq_canon (arg.reshape S4096x128 reshapes_S512x8x128_S4096x128.1 reshapes_S512x8x128_S4096x128.2
    harg.contiguous).view f (strips i u) (covered i u)
  rw [canon_strips] at h
  funext j
  have hj1 : (j 1).val < 8 := (j 1).isLt
  have hj0 : (j 0).val < 512 := (j 0).isLt
  have hj2 : (j 2).val < 128 := (j 2).isLt
  have hk : Shape.reshapeEquiv reshapes_S512x8x128_S4096x128.1 (ix2 (⟨(j 0).val * 8 + (j 1).val, by omega⟩ : Fin 4096) (⟨(j 2).val, hj2⟩ : Fin 128)) = j := by
    refine Shape.reshapeEquiv_eq_of_rowMajor _ ?_
    rw [Shape.rowMajor_val_three, Shape.rowMajor_val_two]
    rfl
  have hr := congrFun h (ix2 (⟨(j 0).val * 8 + (j 1).val, by omega⟩ : Fin 4096) (⟨(j 2).val, hj2⟩ : Fin 128))
  refine (congrArg (arg.view.read (Elt F) _) hk.symm).trans (hr.trans ?_)
  refine congrArg u (congrArg₂ ix2 (Fin.ext ?_) (Fin.ext ?_))
  · show ((j 0).val * 8 + (j 1).val) / 8 = (j 0).val
    omega
  · show ((j 0).val * 8 + (j 1).val) % 8 * 128 + (j 2).val = (j 1).val * 128 + (j 2).val
    omega

end Cert.FfnInIdeal.Slab

end
-- ==== Proof.FfnTile.lean ====
/- What the input call computes on one tile, read at an index: the payloads of the call's arithmetic. -/
module

public import proofs.«01_k».proof.Proof.Gen.FfnInIdeal.Skeleton
public import proofs.«01_k».proof.Proof.Token

@[expose] public section

set_option maxRecDepth 16384

noncomputable section

namespace Cert.FfnInIdeal.Tile

open Cert.FfnInIdeal Cert.FfnInIdeal.Gen Idealize.ShloMosaic

/-! ## The payloads at an index -/

/-- A tile's row is its sequence and lane. -/
theorem rows_apply (x : Vec Ideal S8x128x1024 .f32) (s : Fin 8) (l : Fin 128) (j : Fin 1024) :
    k0_pay4 x (ix2 (⟨s.val * 128 + l.val, by omega⟩ : Fin 1024) j) = x (ix3 s l j) := by
  unfold k0_pay4
  exact shapeCast_apply _ _ _ _ (by rw [Shape.rowMajor_val_three, Shape.rowMajor_val_two]; rfl)

/-- The row times the norm's gain. -/
theorem gained_apply (x : Vec Ideal S8x128x1024 .f32) (g : Vec Ideal S1x1024 .f32) (r j : Fin 1024) :
    k0_pay5 x g (ix2 r j) = k0_pay4 x (ix2 r j) * g (ix2 0 j) := by
  pointwise [k0_pay5]

/-- The row's RMS scale. -/
theorem scale_apply (x : Vec Ideal S8x128x1024 .f32) (r : Fin 1024) :
    k0_pay6 x (ix2 r 0) = Token.rinv fun k => k0_pay4 x (ix2 r k) := by
  pointwise [k0_pay6, Token.rinv]

/-- The first piece of the hidden width, projected back. -/
theorem first_apply (x : Vec Ideal S8x128x1024 .f32) (g : Vec Ideal S1x1024 .f32) (wg wu : Vec Ideal S1024x1536 .bf16)
    (wd : Vec Ideal S1536x1024 .bf16) (r j : Fin 1024) :
    k0_pay7 x g wg wu wd (ix2 r j)
      = ∑ f : Fin 1536, (∑ k : Fin 1024, k0_pay5 x g (ix2 r k) * wg (ix2 k f)) * k0_pay6 x (ix2 r 0)
          * Ideal.logistic ((∑ k : Fin 1024, k0_pay5 x g (ix2 r k) * wg (ix2 k f)) * k0_pay6 x (ix2 r 0))
          * ((∑ k : Fin 1024, k0_pay5 x g (ix2 r k) * wu (ix2 k f)) * k0_pay6 x (ix2 r 0)) * wd (ix2 f j) := by
  pointwise [k0_pay7]

/-- The gate's projection, second piece of the hidden width. -/
theorem gate_apply (x : Vec Ideal S8x128x1024 .f32) (g : Vec Ideal S1x1024 .f32) (wg : Vec Ideal S1024x1280 .bf16)
    (r : Fin 1024) (f : Fin 1280) :
    k0_pay8 x g wg (ix2 r f) = ∑ k : Fin 1024, k0_pay5 x g (ix2 r k) * wg (ix2 k f) := by
  pointwise [k0_pay8]

/-- The scale, repeated over the second piece of the hidden width. -/
theorem repeated_apply (x : Vec Ideal S8x128x1024 .f32) (r : Fin 1024) (f : Fin 1280) :
    k0_pay9 x (ix2 r f) = k0_pay6 x (ix2 r 0) := by
  pointwise [k0_pay9]

/-- The row after the feed-forward half step. -/
theorem stepped_apply (x : FVec Ideal S1024x1024 .f32) (h : FVec Ideal S1024x1024 .bf16) (s : FVec Ideal S1024x1 .f32)
    (p : FVec Ideal S1024x1024 .f32) (a b : FVec Ideal S1024x1280 .f32) (wu : Vec Ideal S1024x1280 .bf16)
    (wd : Vec Ideal S1280x1024 .bf16) (r j : Fin 1024) :
    k0_pay10 x h s p a b wu wd (ix2 r j)
      = x (ix2 r j) + Ideal.ofBits .f32 0x3F000000#32 * (p (ix2 r j)
          + ∑ f : Fin 1280, a (ix2 r f) * b (ix2 r f) * Ideal.logistic (a (ix2 r f) * b (ix2 r f))
              * ((∑ k : Fin 1024, h (ix2 r k) * wu (ix2 k f)) * s (ix2 r 0)) * wd (ix2 f j)) := by
  pointwise [k0_pay10]

/-- The stored tile unmerges the rows. -/
theorem stored_apply (x : FVec Ideal S1024x1024 .f32) (h : FVec Ideal S1024x1024 .bf16) (sc : FVec Ideal S1024x1 .f32)
    (p : FVec Ideal S1024x1024 .f32) (a b : FVec Ideal S1024x1280 .f32) (wu : Vec Ideal S1024x1280 .bf16)
    (wd : Vec Ideal S1280x1024 .bf16) (s : Fin 8) (l : Fin 128) (j : Fin 1024) :
    k0_pay11 x h sc p a b wu wd (ix3 s l j)
      = k0_pay10 x h sc p a b wu wd (ix2 (⟨s.val * 128 + l.val, by omega⟩ : Fin 1024) j) := by
  unfold k0_pay11
  exact shapeCast_apply _ _ _ _ (by rw [Shape.rowMajor_val_three, Shape.rowMajor_val_two]; rfl)

/-- The stepped row times the mixer norm's gain. -/
theorem gained2_apply (x : FVec Ideal S1024x1024 .f32) (h : FVec Ideal S1024x1024 .bf16) (s : FVec Ideal S1024x1 .f32)
    (p : FVec Ideal S1024x1024 .f32) (a b : FVec Ideal S1024x1280 .f32) (wu : Vec Ideal S1024x1280 .bf16)
    (wd : Vec Ideal S1280x1024 .bf16) (g : Vec Ideal S1x1024 .f32) (r j : Fin 1024) :
    k0_pay12 x h s p a b wu wd g (ix2 r j) = k0_pay10 x h s p a b wu wd (ix2 r j) * g (ix2 0 j) := by
  pointwise [k0_pay12]

/-- The stepped row's RMS scale, laid along the lanes. -/
theorem scale2_apply (x : FVec Ideal S1024x1024 .f32) (h : FVec Ideal S1024x1024 .bf16) (s : FVec Ideal S1024x1 .f32)
    (p : FVec Ideal S1024x1024 .f32) (a b : FVec Ideal S1024x1280 .f32) (wu : Vec Ideal S1024x1280 .bf16)
    (wd : Vec Ideal S1280x1024 .bf16) (r : Fin 1024) :
    k0_pay13 x h s p a b wu wd (ix2 0 r) = Token.rinv fun k => k0_pay10 x h s p a b wu wd (ix2 r k) := by
  pointwise [k0_pay13, Token.rinv]

/-- The gate columns' projection. -/
theorem gating_apply (x : FVec Ideal S1024x1024 .f32) (h : FVec Ideal S1024x1024 .bf16) (s : FVec Ideal S1024x1 .f32)
    (p : FVec Ideal S1024x1024 .f32) (a b : FVec Ideal S1024x1280 .f32) (wu : Vec Ideal S1024x1280 .bf16)
    (wd : Vec Ideal S1280x1024 .bf16) (g : Vec Ideal S1x1024 .f32) (w : Vec Ideal S512x1024 .bf16) (ch : Fin 512) (r : Fin 1024) :
    k0_pay15 (k0_pay14 x h s p a b wu wd g w) (ix2 ch r)
      = Ideal.logistic ((∑ k : Fin 1024, w (ix2 ch k) * k0_pay12 x h s p a b wu wd g (ix2 r k))
          * k0_pay13 x h s p a b wu wd (ix2 0 r)) := by
  pointwise [k0_pay15, k0_pay14]

/-- The S5 columns' projection. -/
theorem plain_apply (h : FVec Ideal S1024x1024 .bf16) (s : FVec Ideal S1x1024 .f32) (w : Vec Ideal S512x1024 .bf16)
    (ch : Fin 512) (r : Fin 1024) :
    k0_pay16 h s w (ix2 ch r) = (∑ k : Fin 1024, w (ix2 ch k) * h (ix2 r k)) * s (ix2 0 r) := by
  pointwise [k0_pay16]

/-- The convolution columns' projection, gated. -/
theorem product_apply (h : FVec Ideal S1024x1024 .bf16) (s : FVec Ideal S1x1024 .f32) (q : FVec Ideal S512x1024 .f32)
    (w : Vec Ideal S512x1024 .bf16) (ch : Fin 512) (r : Fin 1024) :
    k0_pay529 h s q w (ix2 ch r) = (∑ k : Fin 1024, w (ix2 ch k) * h (ix2 r k)) * s (ix2 0 r) * q (ix2 ch r) := by
  pointwise [k0_pay529]

end Cert.FfnInIdeal.Tile

end
-- ==== Proof.FfnSpec.lean ====
/- What the input call stores, from the loaded values: each stored value is the token arithmetic at its index. -/
module

public import proofs.«01_k».proof.Proof.FfnTile

@[expose] public section

set_option maxRecDepth 16384

noncomputable section

namespace Cert.FfnInIdeal.Tile

open Cert.FfnInIdeal Cert.FfnInIdeal.Gen Idealize.ShloMosaic

section

variable {F : FTy → Type} [FloatOps F] (x : Vec F S8x128x1024 .f32) (g : Vec F S1x1024 .f32) (wg wu : Vec F S1024x1536 .bf16)
  (wd : Vec F S1536x1024 .bf16) (wg' wu' : Vec F S1024x1280 .bf16) (wd' : Vec F S1280x1024 .bf16) (gm : Vec F S1x1024 .f32)

/-- A hidden unit of the first piece. -/
def lower (f : Fin 1536) : Fin 2816 := ⟨f.val, by omega⟩
/-- A hidden unit of the second piece. -/
def upper (f : Fin 1280) : Fin 2816 := ⟨1536 + f.val, by omega⟩

/-- The hidden layer's sum over its two pieces. -/
theorem sum_pieces (h : Fin 2816 → EReal) : (∑ f : Fin 1536, h (lower f)) + ∑ f : Fin 1280, h (upper f) = ∑ f : Fin 2816, h f :=
  Token.sum_split h

/-- The rows after the half step. -/
def stepped : FVec F S1024x1024 .f32 :=
  k0_pay10 (k0_pay4 x) (k0_pay5 x g) (k0_pay6 x) (k0_pay7 x g wg wu wd) (k0_pay8 x g wg') (k0_pay9 x) wu' wd'

/-- The tile stored in the residual stream's window. -/
def tileOf : FVec F S8x128x1024 .f32 :=
  k0_pay11 (k0_pay4 x) (k0_pay5 x g) (k0_pay6 x) (k0_pay7 x g wg wu wd) (k0_pay8 x g wg') (k0_pay9 x) wu' wd'

/-- The rows times the mixer norm's gain. -/
def gained : FVec F S1024x1024 .bf16 :=
  k0_pay12 (k0_pay4 x) (k0_pay5 x g) (k0_pay6 x) (k0_pay7 x g wg wu wd) (k0_pay8 x g wg') (k0_pay9 x) wu' wd' gm

/-- The rows' scales, laid along the lanes. -/
def scales : FVec F S1x1024 .f32 :=
  k0_pay13 (k0_pay4 x) (k0_pay5 x g) (k0_pay6 x) (k0_pay7 x g wg wu wd) (k0_pay8 x g wg') (k0_pay9 x) wu' wd'

/-- The gate of the convolution columns. -/
def gating (w : Vec F S512x1024 .bf16) : FVec F S512x1024 .f32 :=
  k0_pay15 (k0_pay14 (k0_pay4 x) (k0_pay5 x g) (k0_pay6 x) (k0_pay7 x g wg wu wd) (k0_pay8 x g wg') (k0_pay9 x) wu' wd' gm w)

/-- The S5 columns, by channel and row. -/
def plainOf (w : Vec F S512x1024 .bf16) : FVec F S512x1024 .f32 :=
  k0_pay16 (gained x g wg wu wd wg' wu' wd' gm) (scales x g wg wu wd wg' wu' wd') w

/-- The convolution columns, gated, by channel and row. -/
def productOf (w w' : Vec F S512x1024 .bf16) : FVec F S512x1024 .f32 :=
  k0_pay529 (gained x g wg wu wd wg' wu' wd' gm) (scales x g wg wu wd wg' wu' wd') (gating x g wg wu wd wg' wu' wd' gm w') w

end

variable (x : Vec Ideal S8x128x1024 .f32) (g : Vec Ideal S1x1024 .f32) (wg wu : Vec Ideal S1024x1536 .bf16)
  (wd : Vec Ideal S1536x1024 .bf16) (wg' wu' : Vec Ideal S1024x1280 .bf16) (wd' : Vec Ideal S1280x1024 .bf16)
  (gm : Vec Ideal S1x1024 .f32) (WG WU : Fin 1024 → Fin 2816 → EReal) (WD : Fin 2816 → Fin 1024 → EReal)
  (hwg : ∀ k (f : Fin 1536), wg (ix2 k f) = WG k (lower f)) (hwg' : ∀ k (f : Fin 1280), wg' (ix2 k f) = WG k (upper f))
  (hwu : ∀ k (f : Fin 1536), wu (ix2 k f) = WU k (lower f)) (hwu' : ∀ k (f : Fin 1280), wu' (ix2 k f) = WU k (upper f))
  (hwd : ∀ (f : Fin 1536) j, wd (ix2 f j) = WD (lower f) j) (hwd' : ∀ (f : Fin 1280) j, wd' (ix2 f j) = WD (upper f) j)

include hwg hwg' hwu hwu' hwd hwd'

/-- The stepped row of a sequence and lane is the feed-forward half step on that token. -/
theorem stepped_token (s : Fin 8) (l : Fin 128) (j : Fin 1024) :
    stepped x g wg wu wd wg' wu' wd' (ix2 (⟨s.val * 128 + l.val, by omega⟩ : Fin 1024) j)
      = Token.ffn (fun j => x (ix3 s l j)) (fun j => g (ix2 0 j)) WG WU WD j := by
  unfold stepped Token.ffn
  rw [stepped_apply]
  simp only [first_apply, gate_apply, repeated_apply, gained_apply, scale_apply, rows_apply, hwg, hwu, hwg', hwu', hwd, hwd']
  rw [← sum_pieces]
  simp only [Token.hid_scaled]

/-- The stored tile. -/
theorem tile_token (s : Fin 8) (l : Fin 128) (j : Fin 1024) :
    tileOf x g wg wu wd wg' wu' wd' (ix3 s l j)
      = Token.ffn (fun j => x (ix3 s l j)) (fun j => g (ix2 0 j)) WG WU WD j := by
  unfold tileOf
  rw [stored_apply]
  exact stepped_token x g wg wu wd wg' wu' wd' WG WU WD hwg hwg' hwu hwu' hwd hwd' s l j

/-- The gained row. -/
theorem gained_token (s : Fin 8) (l : Fin 128) (j : Fin 1024) :
    gained x g wg wu wd wg' wu' wd' gm (ix2 (⟨s.val * 128 + l.val, by omega⟩ : Fin 1024) j)
      = Token.ffn (fun j => x (ix3 s l j)) (fun j => g (ix2 0 j)) WG WU WD j * gm (ix2 0 j) := by
  unfold gained
  rw [gained2_apply]
  exact congrArg (· * gm (ix2 0 j)) (stepped_token x g wg wu wd wg' wu' wd' WG WU WD hwg hwg' hwu hwu' hwd hwd' s l j)

/-- The row's scale. -/
theorem scales_token (s : Fin 8) (l : Fin 128) :
    scales x g wg wu wd wg' wu' wd' (ix2 0 (⟨s.val * 128 + l.val, by omega⟩ : Fin 1024))
      = Token.rinv (Token.ffn (fun j => x (ix3 s l j)) (fun j => g (ix2 0 j)) WG WU WD) := by
  unfold scales
  rw [scale2_apply]
  exact congrArg Token.rinv (funext fun j => stepped_token x g wg wu wd wg' wu' wd' WG WU WD hwg hwg' hwu hwu' hwd hwd' s l j)

/-- An S5 channel at a sequence and lane. -/
theorem plain_token (w : Vec Ideal S512x1024 .bf16) (s : Fin 8) (l : Fin 128) (ch : Fin 512) :
    plainOf x g wg wu wd wg' wu' wd' gm w (ix2 ch (⟨s.val * 128 + l.val, by omega⟩ : Fin 1024))
      = Token.projected (Token.ffn (fun j => x (ix3 s l j)) (fun j => g (ix2 0 j)) WG WU WD) (fun j => gm (ix2 0 j))
          (fun k => w (ix2 ch k)) := by
  unfold plainOf
  rw [plain_apply]
  simp only [gained_token x g wg wu wd wg' wu' wd' gm WG WU WD hwg hwg' hwu hwu' hwd hwd',
    scales_token x g wg wu wd wg' wu' wd' WG WU WD hwg hwg' hwu hwu' hwd hwd']
  exact Token.projected_scaled _ _ fun k => w (ix2 ch k)

/-- A convolution channel at a sequence and lane. -/
theorem product_token (w w' : Vec Ideal S512x1024 .bf16) (s : Fin 8) (l : Fin 128) (ch : Fin 512) :
    productOf x g wg wu wd wg' wu' wd' gm w w' (ix2 ch (⟨s.val * 128 + l.val, by omega⟩ : Fin 1024))
      = Token.projected (Token.ffn (fun j => x (ix3 s l j)) (fun j => g (ix2 0 j)) WG WU WD) (fun j => gm (ix2 0 j))
            (fun k => w (ix2 ch k))
        * Ideal.logistic (Token.projected (Token.ffn (fun j => x (ix3 s l j)) (fun j => g (ix2 0 j)) WG WU WD) (fun j => gm (ix2 0 j))
            (fun k => w' (ix2 ch k))) := by
  have hg : gating x g wg wu wd wg' wu' wd' gm w' (ix2 ch (⟨s.val * 128 + l.val, by omega⟩ : Fin 1024))
      = Ideal.logistic (Token.projected (Token.ffn (fun j => x (ix3 s l j)) (fun j => g (ix2 0 j)) WG WU WD) (fun j => gm (ix2 0 j))
            (fun k => w' (ix2 ch k))) := by
    unfold gating
    rw [gating_apply]
    refine congrArg Ideal.logistic (Eq.trans ?_ (Token.projected_scaled _ _ fun k => w' (ix2 ch k)))
    exact congrArg₂ (· * ·) (Finset.sum_congr rfl fun k _ => congrArg (w' (ix2 ch k) * ·)
        (gained_token x g wg wu wd wg' wu' wd' gm WG WU WD hwg hwg' hwu hwu' hwd hwd' s l k))
      (scales_token x g wg wu wd wg' wu' wd' WG WU WD hwg hwg' hwu hwu' hwd hwd' s l)
  have hp := plain_token x g wg wu wd wg' wu' wd' gm WG WU WD hwg hwg' hwu hwu' hwd hwd' w s l ch
  unfold plainOf at hp
  rw [plain_apply] at hp
  unfold productOf
  rw [product_apply, hp, hg]

end Cert.FfnInIdeal.Tile

end
-- ==== Proof.FfnBody.lean ====
/- The input call's body as one triple: on whole staging memrefs it leaves in each output window a function of the input blocks. -/
module

public import proofs.«01_k».proof.Proof.FfnRun
public import proofs.«01_k».proof.Proof.Gen.FfnInIdeal.Frame
public import proofs.«01_k».proof.Proof.FfnSlab
public import proofs.«01_k».proof.Proof.FfnSpec

@[expose] public section

set_option maxRecDepth 16384

noncomputable section

namespace Cert.FfnInIdeal.Body

open Cert.FfnInIdeal Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body leaves in output window 11: the tile of the residual stream. -/
def tokens (x0 : Vec F S8x128x1024 .f32) (x1 : Vec F S1x1024 .f32) (x2 : Vec F S1024x2816 .bf16) (x3 : Vec F S1024x2816 .bf16) (x4 : Vec F S2816x1024 .bf16) (x5 : Vec F S1x1024 .f32) (x6 : Vec F S1536x1024 .bf16) : Vec F S8x128x1024 .f32 :=
  Tile.tileOf (View.ld x0 (Rect.unit (s := S8x128x1024) ![0, 0, 0] S8x128x1024.size inb_S8x128x1024_S8x128x1024_0_0_0)) (View.ld x1 (Rect.unit (s := S1x1024) ![0, 0] S1x1024.size inb_S1x1024_S1x1024_0_0)) (View.ld x2 (Rect.unit (s := S1024x2816) ![0, 0] S1024x1536.size inb_S1024x2816_S1024x1536_0_0)) (View.ld x3 (Rect.unit (s := S1024x2816) ![0, 0] S1024x1536.size inb_S1024x2816_S1024x1536_0_0)) (View.ld x4 (Rect.unit (s := S2816x1024) ![0, 0] S1536x1024.size inb_S2816x1024_S1536x1024_0_0)) (View.ld x2 (Rect.unit (s := S1024x2816) ![0, 1536] S1024x1280.size inb_S1024x2816_S1024x1280_0_1536)) (View.ld x3 (Rect.unit (s := S1024x2816) ![0, 1536] S1024x1280.size inb_S1024x2816_S1024x1280_0_1536)) (View.ld x4 (Rect.unit (s := S2816x1024) ![1536, 0] S1280x1024.size inb_S2816x1024_S1280x1024_1536_0))

/-- What the body leaves in output window 12: the S5 columns as a slab. -/
def plain (x0 : Vec F S8x128x1024 .f32) (x1 : Vec F S1x1024 .f32) (x2 : Vec F S1024x2816 .bf16) (x3 : Vec F S1024x2816 .bf16) (x4 : Vec F S2816x1024 .bf16) (x5 : Vec F S1x1024 .f32) (x6 : Vec F S1536x1024 .bf16) : Vec F S512x8x128 .f32 :=
  Slab.slab (Tile.plainOf (View.ld x0 (Rect.unit (s := S8x128x1024) ![0, 0, 0] S8x128x1024.size inb_S8x128x1024_S8x128x1024_0_0_0)) (View.ld x1 (Rect.unit (s := S1x1024) ![0, 0] S1x1024.size inb_S1x1024_S1x1024_0_0)) (View.ld x2 (Rect.unit (s := S1024x2816) ![0, 0] S1024x1536.size inb_S1024x2816_S1024x1536_0_0)) (View.ld x3 (Rect.unit (s := S1024x2816) ![0, 0] S1024x1536.size inb_S1024x2816_S1024x1536_0_0)) (View.ld x4 (Rect.unit (s := S2816x1024) ![0, 0] S1536x1024.size inb_S2816x1024_S1536x1024_0_0)) (View.ld x2 (Rect.unit (s := S1024x2816) ![0, 1536] S1024x1280.size inb_S1024x2816_S1024x1280_0_1536)) (View.ld x3 (Rect.unit (s := S1024x2816) ![0, 1536] S1024x1280.size inb_S1024x2816_S1024x1280_0_1536)) (View.ld x4 (Rect.unit (s := S2816x1024) ![1536, 0] S1280x1024.size inb_S2816x1024_S1280x1024_1536_0)) (View.ld x5 (Rect.unit (s := S1x1024) ![0, 0] S1x1024.size inb_S1x1024_S1x1024_0_0)) (View.ld x6 (Rect.unit (s := S1536x1024) ![0, 0] S512x1024.size inb_S1536x1024_S512x1024_0_0)))

/-- What the body leaves in output window 13: the gated convolution columns as a slab. -/
def product (x0 : Vec F S8x128x1024 .f32) (x1 : Vec F S1x1024 .f32) (x2 : Vec F S1024x2816 .bf16) (x3 : Vec F S1024x2816 .bf16) (x4 : Vec F S2816x1024 .bf16) (x5 : Vec F S1x1024 .f32) (x6 : Vec F S1536x1024 .bf16) : Vec F S512x8x128 .f32 :=
  Slab.slab (Tile.productOf (View.ld x0 (Rect.unit (s := S8x128x1024) ![0, 0, 0] S8x128x1024.size inb_S8x128x1024_S8x128x1024_0_0_0)) (View.ld x1 (Rect.unit (s := S1x1024) ![0, 0] S1x1024.size inb_S1x1024_S1x1024_0_0)) (View.ld x2 (Rect.unit (s := S1024x2816) ![0, 0] S1024x1536.size inb_S1024x2816_S1024x1536_0_0)) (View.ld x3 (Rect.unit (s := S1024x2816) ![0, 0] S1024x1536.size inb_S1024x2816_S1024x1536_0_0)) (View.ld x4 (Rect.unit (s := S2816x1024) ![0, 0] S1536x1024.size inb_S2816x1024_S1536x1024_0_0)) (View.ld x2 (Rect.unit (s := S1024x2816) ![0, 1536] S1024x1280.size inb_S1024x2816_S1024x1280_0_1536)) (View.ld x3 (Rect.unit (s := S1024x2816) ![0, 1536] S1024x1280.size inb_S1024x2816_S1024x1280_0_1536)) (View.ld x4 (Rect.unit (s := S2816x1024) ![1536, 0] S1280x1024.size inb_S2816x1024_S1280x1024_1536_0)) (View.ld x5 (Rect.unit (s := S1x1024) ![0, 0] S1x1024.size inb_S1x1024_S1x1024_0_0)) (View.ld x6 (Rect.unit (s := S1536x1024) ![512, 0] S512x1024.size inb_S1536x1024_S512x1024_512_0)) (View.ld x6 (Rect.unit (s := S1536x1024) ![1024, 0] S512x1024.size inb_S1536x1024_S512x1024_1024_0)))

/-- What the body leaves in output window 14: the gate rows cast. -/
def gateCast (x7 : Vec F S32x2816 .f32) : Vec F S32x2816 .bf16 :=
  k0_pay1042 (View.ld x7 (Rect.unit (s := S32x2816) ![0, 0] S32x2816.size inb_S32x2816_S32x2816_0_0))

/-- What the body leaves in output window 15: the up rows cast. -/
def upCast (x8 : Vec F S32x2816 .f32) : Vec F S32x2816 .bf16 :=
  k0_pay1 (View.ld x8 (Rect.unit (s := S32x2816) ![0, 0] S32x2816.size inb_S32x2816_S32x2816_0_0))

/-- What the body leaves in output window 16: the down rows cast. -/
def downCast (x9 : Vec F S176x1024 .f32) : Vec F S176x1024 .bf16 :=
  k0_pay2 (View.ld x9 (Rect.unit (s := S176x1024) ![0, 0] S176x1024.size inb_S176x1024_S176x1024_0_0))

/-- What the body leaves in output window 17: the output rows cast. -/
def outCast (x10 : Vec F S32x1024 .f32) : Vec F S32x1024 .bf16 :=
  k0_pay3 (View.ld x10 (Rect.unit (s := S32x1024) ![0, 0] S32x1024.size inb_S32x1024_S32x1024_0_0))

/-- One store of a whole window is what the window then reads. -/
theorem read_whole {s : Shape} {e : EltTy} (v : View sig .tc .vmem s e) (f : v.ty.Contents (Elt F)) {off : Fin s.rank → Nat}
    (h : off = fun _ => 0) (inb : ∀ a, off a + s.size a ≤ s.size a) (w : s.Idx → Elt F e) :
    v.read (Elt F) (v.writes (Elt F) f [(⟨Rect.unit off s.size inb, w⟩ : View.Piece (Elt F) s e)]) = w := by
  rw [View.read_writes_eq_canon v f _ fun y => ⟨_, List.mem_singleton_self _, View.mem_set_unit_zero h inb y⟩]
  exact View.canon_unit_zero h inb w

/-- The zero offsets of a matrix. -/
theorem zero2 : (![0, 0] : Fin 2 → Nat) = fun _ => 0 := by decide
/-- The zero offsets of a tile. -/
theorem zero3 : (![0, 0, 0] : Fin 3 → Nat) = fun _ => 0 := by decide

/-- The run's stores, from the loaded values. -/
theorem pieces (c : Dev nD) (i : grid0.Coords) (arg2 : Memref sig .tc .vmem S8x128x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1536x1024 .bf16) (harg8 : arg8.IsWhole) (arg9 : Memref sig .tc .vmem S32x2816 .f32) (harg9 : arg9.IsWhole) (arg10 : Memref sig .tc .vmem S32x2816 .f32) (harg10 : arg10.IsWhole) (arg11 : Memref sig .tc .vmem S176x1024 .f32) (harg11 : arg11.IsWhole) (arg12 : Memref sig .tc .vmem S32x1024 .f32) (harg12 : arg12.IsWhole) (arg13 : Memref sig .tc .vmem S8x128x1024 .f32) (harg13 : arg13.IsWhole) (arg14 : Memref sig .tc .vmem S512x8x128 .f32) (harg14 : arg14.IsWhole) (arg15 : Memref sig .tc .vmem S512x8x128 .f32) (harg15 : arg15.IsWhole) (arg16 : Memref sig .tc .vmem S32x2816 .bf16) (harg16 : arg16.IsWhole) (arg17 : Memref sig .tc .vmem S32x2816 .bf16) (harg17 : arg17.IsWhole) (arg18 : Memref sig .tc .vmem S176x1024 .bf16) (harg18 : arg18.IsWhole) (arg19 : Memref sig .tc .vmem S32x1024 .bf16) (harg19 : arg19.IsWhole)
    (M12 : Memref sig .tc .vmem S4096x128 .f32) (hM12 : (arg14.reshape S4096x128 reshapes_S512x8x128_S4096x128.1 reshapes_S512x8x128_S4096x128.2 harg14.contiguous) = M12) (M13 : Memref sig .tc .vmem S4096x128 .f32) (hM13 : (arg15.reshape S4096x128 reshapes_S512x8x128_S4096x128.1 reshapes_S512x8x128_S4096x128.2 harg15.contiguous) = M13)
    (x0 : Vec F S8x128x1024 .f32) (x1 : Vec F S1x1024 .f32) (x2 : Vec F S1024x2816 .bf16) (x3 : Vec F S1024x2816 .bf16) (x4 : Vec F S2816x1024 .bf16) (x5 : Vec F S1x1024 .f32) (x6 : Vec F S1536x1024 .bf16) (x7 : Vec F S32x2816 .f32) (x8 : Vec F S32x2816 .f32) (x9 : Vec F S176x1024 .f32) (x10 : Vec F S32x1024 .f32) :
    (Run.bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 M12 hM12 M13 hM13 x0 x1 x2 x3 x4 x5 x6 x7 x8 x9 x10).1
      = ([(⟨(Rect.unit (s := S8x128x1024) ![0, 0, 0] S8x128x1024.size inb_S8x128x1024_S8x128x1024_0_0_0), Tile.tileOf (View.readAt (Elt F) arg2.view (Rect.unit (s := S8x128x1024) ![0, 0, 0] S8x128x1024.size inb_S8x128x1024_S8x128x1024_0_0_0).toLoadRect (harg2.unread x0)) (View.readAt (Elt F) arg3.view (Rect.unit (s := S1x1024) ![0, 0] S1x1024.size inb_S1x1024_S1x1024_0_0).toLoadRect (harg3.unread x1)) (View.readAt (Elt F) arg4.view (Rect.unit (s := S1024x2816) ![0, 0] S1024x1536.size inb_S1024x2816_S1024x1536_0_0).toLoadRect (harg4.unread x2)) (View.readAt (Elt F) arg5.view (Rect.unit (s := S1024x2816) ![0, 0] S1024x1536.size inb_S1024x2816_S1024x1536_0_0).toLoadRect (harg5.unread x3)) (View.readAt (Elt F) arg6.view (Rect.unit (s := S2816x1024) ![0, 0] S1536x1024.size inb_S2816x1024_S1536x1024_0_0).toLoadRect (harg6.unread x4)) (View.readAt (Elt F) arg4.view (Rect.unit (s := S1024x2816) ![0, 1536] S1024x1280.size inb_S1024x2816_S1024x1280_0_1536).toLoadRect (harg4.unread x2)) (View.readAt (Elt F) arg5.view (Rect.unit (s := S1024x2816) ![0, 1536] S1024x1280.size inb_S1024x2816_S1024x1280_0_1536).toLoadRect (harg5.unread x3)) (View.readAt (Elt F) arg6.view (Rect.unit (s := S2816x1024) ![1536, 0] S1280x1024.size inb_S2816x1024_S1280x1024_1536_0).toLoadRect (harg6.unread x4))⟩ : View.Piece (Elt F) S8x128x1024 .f32)],
        Slab.strips i (Tile.plainOf (View.readAt (Elt F) arg2.view (Rect.unit (s := S8x128x1024) ![0, 0, 0] S8x128x1024.size inb_S8x128x1024_S8x128x1024_0_0_0).toLoadRect (harg2.unread x0)) (View.readAt (Elt F) arg3.view (Rect.unit (s := S1x1024) ![0, 0] S1x1024.size inb_S1x1024_S1x1024_0_0).toLoadRect (harg3.unread x1)) (View.readAt (Elt F) arg4.view (Rect.unit (s := S1024x2816) ![0, 0] S1024x1536.size inb_S1024x2816_S1024x1536_0_0).toLoadRect (harg4.unread x2)) (View.readAt (Elt F) arg5.view (Rect.unit (s := S1024x2816) ![0, 0] S1024x1536.size inb_S1024x2816_S1024x1536_0_0).toLoadRect (harg5.unread x3)) (View.readAt (Elt F) arg6.view (Rect.unit (s := S2816x1024) ![0, 0] S1536x1024.size inb_S2816x1024_S1536x1024_0_0).toLoadRect (harg6.unread x4)) (View.readAt (Elt F) arg4.view (Rect.unit (s := S1024x2816) ![0, 1536] S1024x1280.size inb_S1024x2816_S1024x1280_0_1536).toLoadRect (harg4.unread x2)) (View.readAt (Elt F) arg5.view (Rect.unit (s := S1024x2816) ![0, 1536] S1024x1280.size inb_S1024x2816_S1024x1280_0_1536).toLoadRect (harg5.unread x3)) (View.readAt (Elt F) arg6.view (Rect.unit (s := S2816x1024) ![1536, 0] S1280x1024.size inb_S2816x1024_S1280x1024_1536_0).toLoadRect (harg6.unread x4)) (View.readAt (Elt F) arg7.view (Rect.unit (s := S1x1024) ![0, 0] S1x1024.size inb_S1x1024_S1x1024_0_0).toLoadRect (harg7.unread x5)) (View.readAt (Elt F) arg8.view (Rect.unit (s := S1536x1024) ![0, 0] S512x1024.size inb_S1536x1024_S512x1024_0_0).toLoadRect (harg8.unread x6))),
        Slab.strips i (Tile.productOf (View.readAt (Elt F) arg2.view (Rect.unit (s := S8x128x1024) ![0, 0, 0] S8x128x1024.size inb_S8x128x1024_S8x128x1024_0_0_0).toLoadRect (harg2.unread x0)) (View.readAt (Elt F) arg3.view (Rect.unit (s := S1x1024) ![0, 0] S1x1024.size inb_S1x1024_S1x1024_0_0).toLoadRect (harg3.unread x1)) (View.readAt (Elt F) arg4.view (Rect.unit (s := S1024x2816) ![0, 0] S1024x1536.size inb_S1024x2816_S1024x1536_0_0).toLoadRect (harg4.unread x2)) (View.readAt (Elt F) arg5.view (Rect.unit (s := S1024x2816) ![0, 0] S1024x1536.size inb_S1024x2816_S1024x1536_0_0).toLoadRect (harg5.unread x3)) (View.readAt (Elt F) arg6.view (Rect.unit (s := S2816x1024) ![0, 0] S1536x1024.size inb_S2816x1024_S1536x1024_0_0).toLoadRect (harg6.unread x4)) (View.readAt (Elt F) arg4.view (Rect.unit (s := S1024x2816) ![0, 1536] S1024x1280.size inb_S1024x2816_S1024x1280_0_1536).toLoadRect (harg4.unread x2)) (View.readAt (Elt F) arg5.view (Rect.unit (s := S1024x2816) ![0, 1536] S1024x1280.size inb_S1024x2816_S1024x1280_0_1536).toLoadRect (harg5.unread x3)) (View.readAt (Elt F) arg6.view (Rect.unit (s := S2816x1024) ![1536, 0] S1280x1024.size inb_S2816x1024_S1280x1024_1536_0).toLoadRect (harg6.unread x4)) (View.readAt (Elt F) arg7.view (Rect.unit (s := S1x1024) ![0, 0] S1x1024.size inb_S1x1024_S1x1024_0_0).toLoadRect (harg7.unread x5)) (View.readAt (Elt F) arg8.view (Rect.unit (s := S1536x1024) ![512, 0] S512x1024.size inb_S1536x1024_S512x1024_512_0).toLoadRect (harg8.unread x6)) (View.readAt (Elt F) arg8.view (Rect.unit (s := S1536x1024) ![1024, 0] S512x1024.size inb_S1536x1024_S512x1024_1024_0).toLoadRect (harg8.unread x6))),
        [(⟨(Rect.unit (s := S32x2816) ![0, 0] S32x2816.size inb_S32x2816_S32x2816_0_0), k0_pay1042 (View.readAt (Elt F) arg9.view (Rect.unit (s := S32x2816) ![0, 0] S32x2816.size inb_S32x2816_S32x2816_0_0).toLoadRect (harg9.unread x7))⟩ : View.Piece (Elt F) S32x2816 .bf16)],
        [(⟨(Rect.unit (s := S32x2816) ![0, 0] S32x2816.size inb_S32x2816_S32x2816_0_0), k0_pay1 (View.readAt (Elt F) arg10.view (Rect.unit (s := S32x2816) ![0, 0] S32x2816.size inb_S32x2816_S32x2816_0_0).toLoadRect (harg10.unread x8))⟩ : View.Piece (Elt F) S32x2816 .bf16)],
        [(⟨(Rect.unit (s := S176x1024) ![0, 0] S176x1024.size inb_S176x1024_S176x1024_0_0), k0_pay2 (View.readAt (Elt F) arg11.view (Rect.unit (s := S176x1024) ![0, 0] S176x1024.size inb_S176x1024_S176x1024_0_0).toLoadRect (harg11.unread x9))⟩ : View.Piece (Elt F) S176x1024 .bf16)],
        [(⟨(Rect.unit (s := S32x1024) ![0, 0] S32x1024.size inb_S32x1024_S32x1024_0_0), k0_pay3 (View.readAt (Elt F) arg12.view (Rect.unit (s := S32x1024) ![0, 0] S32x1024.size inb_S32x1024_S32x1024_0_0).toLoadRect (harg12.unread x10))⟩ : View.Piece (Elt F) S32x1024 .bf16)]) := by
  sl_kernel_rfl

/-- A slab window's rows are the window: the same elements of the same buffer. -/
theorem rows_owned (c : Dev nD) (arg : Memref sig .tc .vmem S512x8x128 .f32) (harg : arg.IsWhole)
    (f : (arg.reshape S4096x128 reshapes_S512x8x128_S4096x128.1 reshapes_S512x8x128_S4096x128.2 harg.contiguous).view.ty.Contents (Elt F)) :
    ((arg.reshape S4096x128 reshapes_S512x8x128_S4096x128.1 reshapes_S512x8x128_S4096x128.2 harg.contiguous).view.loc (c : Thread nD τ)
        ↦[(arg.reshape S4096x128 reshapes_S512x8x128_S4096x128.1 reshapes_S512x8x128_S4096x128.2 harg.contiguous).view.set]{fullShare} f : sProp 𝕄)
      = (arg.view.loc (c : Thread nD τ) ↦[arg.view.set]{fullShare} f) := by
  have h : (arg.reshape S4096x128 reshapes_S512x8x128_S4096x128.1 reshapes_S512x8x128_S4096x128.2 harg.contiguous).view.set = arg.view.set := View.set_reshape (v := arg.view) _
  rw [h]

/-- The same, as an entailment. -/
theorem rows_left (c : Dev nD) (arg : Memref sig .tc .vmem S512x8x128 .f32) (harg : arg.IsWhole)
    (f : (arg.reshape S4096x128 reshapes_S512x8x128_S4096x128.1 reshapes_S512x8x128_S4096x128.2 harg.contiguous).view.ty.Contents (Elt F)) :
    ((arg.reshape S4096x128 reshapes_S512x8x128_S4096x128.1 reshapes_S512x8x128_S4096x128.2 harg.contiguous).view.loc (c : Thread nD τ)
        ↦[(arg.reshape S4096x128 reshapes_S512x8x128_S4096x128.1 reshapes_S512x8x128_S4096x128.2 harg.contiguous).view.set]{fullShare} f : sProp 𝕄)
      ⊢ (arg.view.loc (c : Thread nD τ) ↦[arg.view.set]{fullShare} f) := by
  rw [rows_owned c arg harg f]

/-- The body's triple. -/
theorem body_run (c : Dev nD) (i : grid0.Coords) (arg2 : Memref sig .tc .vmem S8x128x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1536x1024 .bf16) (harg8 : arg8.IsWhole) (arg9 : Memref sig .tc .vmem S32x2816 .f32) (harg9 : arg9.IsWhole) (arg10 : Memref sig .tc .vmem S32x2816 .f32) (harg10 : arg10.IsWhole) (arg11 : Memref sig .tc .vmem S176x1024 .f32) (harg11 : arg11.IsWhole) (arg12 : Memref sig .tc .vmem S32x1024 .f32) (harg12 : arg12.IsWhole) (arg13 : Memref sig .tc .vmem S8x128x1024 .f32) (harg13 : arg13.IsWhole) (arg14 : Memref sig .tc .vmem S512x8x128 .f32) (harg14 : arg14.IsWhole) (arg15 : Memref sig .tc .vmem S512x8x128 .f32) (harg15 : arg15.IsWhole) (arg16 : Memref sig .tc .vmem S32x2816 .bf16) (harg16 : arg16.IsWhole) (arg17 : Memref sig .tc .vmem S32x2816 .bf16) (harg17 : arg17.IsWhole) (arg18 : Memref sig .tc .vmem S176x1024 .bf16) (harg18 : arg18.IsWhole) (arg19 : Memref sig .tc .vmem S32x1024 .bf16) (harg19 : arg19.IsWhole)
    (x0 : Vec F S8x128x1024 .f32) (x1 : Vec F S1x1024 .f32) (x2 : Vec F S1024x2816 .bf16) (x3 : Vec F S1024x2816 .bf16) (x4 : Vec F S2816x1024 .bf16) (x5 : Vec F S1x1024 .f32) (x6 : Vec F S1536x1024 .bf16) (x7 : Vec F S32x2816 .f32) (x8 : Vec F S32x2816 .f32) (x9 : Vec F S176x1024 .f32) (x10 : Vec F S32x1024 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (tokens x0 x1 x2 x3 x4 x5 x6) ∗ owns (c : Thread nD τ) arg14 fullShare (plain x0 x1 x2 x3 x4 x5 x6) ∗ owns (c : Thread nD τ) arg15 fullShare (product x0 x1 x2 x3 x4 x5 x6) ∗ owns (c : Thread nD τ) arg16 fullShare (gateCast x7) ∗ owns (c : Thread nD τ) arg17 fullShare (upCast x8) ∗ owns (c : Thread nD τ) arg18 fullShare (downCast x9) ∗ owns (c : Thread nD τ) arg19 fullShare (outCast x10)) -∗ K ⟨⟩))
          ⊢ wp frame (wpE (defs₀ (F := F)) Variants.none c none) E (cc0_ffn1_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  have hL : (Run.bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ rfl _ rfl x0 x1 x2 x3 x4 x5 x6 x7 x8 x9 x10).1
      = ([(⟨(Rect.unit (s := S8x128x1024) ![0, 0, 0] S8x128x1024.size inb_S8x128x1024_S8x128x1024_0_0_0), tokens x0 x1 x2 x3 x4 x5 x6⟩ : View.Piece (Elt F) S8x128x1024 .f32)],
        Slab.strips i (Tile.plainOf (View.ld x0 (Rect.unit (s := S8x128x1024) ![0, 0, 0] S8x128x1024.size inb_S8x128x1024_S8x128x1024_0_0_0)) (View.ld x1 (Rect.unit (s := S1x1024) ![0, 0] S1x1024.size inb_S1x1024_S1x1024_0_0)) (View.ld x2 (Rect.unit (s := S1024x2816) ![0, 0] S1024x1536.size inb_S1024x2816_S1024x1536_0_0)) (View.ld x3 (Rect.unit (s := S1024x2816) ![0, 0] S1024x1536.size inb_S1024x2816_S1024x1536_0_0)) (View.ld x4 (Rect.unit (s := S2816x1024) ![0, 0] S1536x1024.size inb_S2816x1024_S1536x1024_0_0)) (View.ld x2 (Rect.unit (s := S1024x2816) ![0, 1536] S1024x1280.size inb_S1024x2816_S1024x1280_0_1536)) (View.ld x3 (Rect.unit (s := S1024x2816) ![0, 1536] S1024x1280.size inb_S1024x2816_S1024x1280_0_1536)) (View.ld x4 (Rect.unit (s := S2816x1024) ![1536, 0] S1280x1024.size inb_S2816x1024_S1280x1024_1536_0)) (View.ld x5 (Rect.unit (s := S1x1024) ![0, 0] S1x1024.size inb_S1x1024_S1x1024_0_0)) (View.ld x6 (Rect.unit (s := S1536x1024) ![0, 0] S512x1024.size inb_S1536x1024_S512x1024_0_0))),
        Slab.strips i (Tile.productOf (View.ld x0 (Rect.unit (s := S8x128x1024) ![0, 0, 0] S8x128x1024.size inb_S8x128x1024_S8x128x1024_0_0_0)) (View.ld x1 (Rect.unit (s := S1x1024) ![0, 0] S1x1024.size inb_S1x1024_S1x1024_0_0)) (View.ld x2 (Rect.unit (s := S1024x2816) ![0, 0] S1024x1536.size inb_S1024x2816_S1024x1536_0_0)) (View.ld x3 (Rect.unit (s := S1024x2816) ![0, 0] S1024x1536.size inb_S1024x2816_S1024x1536_0_0)) (View.ld x4 (Rect.unit (s := S2816x1024) ![0, 0] S1536x1024.size inb_S2816x1024_S1536x1024_0_0)) (View.ld x2 (Rect.unit (s := S1024x2816) ![0, 1536] S1024x1280.size inb_S1024x2816_S1024x1280_0_1536)) (View.ld x3 (Rect.unit (s := S1024x2816) ![0, 1536] S1024x1280.size inb_S1024x2816_S1024x1280_0_1536)) (View.ld x4 (Rect.unit (s := S2816x1024) ![1536, 0] S1280x1024.size inb_S2816x1024_S1280x1024_1536_0)) (View.ld x5 (Rect.unit (s := S1x1024) ![0, 0] S1x1024.size inb_S1x1024_S1x1024_0_0)) (View.ld x6 (Rect.unit (s := S1536x1024) ![512, 0] S512x1024.size inb_S1536x1024_S512x1024_512_0)) (View.ld x6 (Rect.unit (s := S1536x1024) ![1024, 0] S512x1024.size inb_S1536x1024_S512x1024_1024_0))),
        [(⟨(Rect.unit (s := S32x2816) ![0, 0] S32x2816.size inb_S32x2816_S32x2816_0_0), gateCast x7⟩ : View.Piece (Elt F) S32x2816 .bf16)],
        [(⟨(Rect.unit (s := S32x2816) ![0, 0] S32x2816.size inb_S32x2816_S32x2816_0_0), upCast x8⟩ : View.Piece (Elt F) S32x2816 .bf16)],
        [(⟨(Rect.unit (s := S176x1024) ![0, 0] S176x1024.size inb_S176x1024_S176x1024_0_0), downCast x9⟩ : View.Piece (Elt F) S176x1024 .bf16)],
        [(⟨(Rect.unit (s := S32x1024) ![0, 0] S32x1024.size inb_S32x1024_S32x1024_0_0), outCast x10⟩ : View.Piece (Elt F) S32x1024 .bf16)]) := by
    rw [pieces]
    simp only [View.readAt_eq_ld, Memref.IsWhole.read_unread]
    rfl
  have h := (Run.bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ rfl _ rfl x0 x1 x2 x3 x4 x5 x6 x7 x8 x9 x10).2 E K
  rw [hL] at h
  dsimp only at h
  iintro ⟨H0, H1, H2, H3, H4, H5, H6, H7, H8, H9, H10, ⟨%d11, H11⟩, ⟨%d12, H12⟩, ⟨%d13, H13⟩, ⟨%d14, H14⟩, ⟨%d15, H15⟩, ⟨%d16, H16⟩, ⟨%d17, H17⟩, Hk⟩
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · unfold owns; icases H11 with ⟨%f, -, H11⟩; iexists f; iexact H11
  isplitl [H12]; · unfold owns; icases H12 with ⟨%f, -, H12⟩; iexists f; rw [rows_owned c arg14 harg14 f]; iexact H12
  isplitl [H13]; · unfold owns; icases H13 with ⟨%f, -, H13⟩; iexists f; rw [rows_owned c arg15 harg15 f]; iexact H13
  isplitl [H14]; · unfold owns; icases H14 with ⟨%f, -, H14⟩; iexists f; iexact H14
  isplitl [H15]; · unfold owns; icases H15 with ⟨%f, -, H15⟩; iexists f; iexact H15
  isplitl [H16]; · unfold owns; icases H16 with ⟨%f, -, H16⟩; iexists f; iexact H16
  isplitl [H17]; · unfold owns; icases H17 with ⟨%f, -, H17⟩; iexists f; iexact H17
  iintro ⟨H0, H1, H2, H3, H4, H5, H6, H7, H8, H9, H10, ⟨%f11, H11⟩, ⟨%f12, H12⟩, ⟨%f13, H13⟩, ⟨%f14, H14⟩, ⟨%f15, H15⟩, ⟨%f16, H16⟩, ⟨%f17, H17⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact read_whole _ _ zero3 _ _
  isplitl [H12]
  · unfold owns; iexists _; isplitr
    swap; · iapply rows_left c arg14 harg14; iexact H12
    ipureintro; exact Slab.read_strips i _ arg14 harg14 _
  isplitl [H13]
  · unfold owns; iexists _; isplitr
    swap; · iapply rows_left c arg15 harg15; iexact H13
    ipureintro; exact Slab.read_strips i _ arg15 harg15 _
  isplitl [H14]
  · unfold owns; iexists _; isplitr
    swap; · iexact H14
    ipureintro; exact read_whole _ _ zero2 _ _
  isplitl [H15]
  · unfold owns; iexists _; isplitr
    swap; · iexact H15
    ipureintro; exact read_whole _ _ zero2 _ _
  isplitl [H16]
  · unfold owns; iexists _; isplitr
    swap; · iexact H16
    ipureintro; exact read_whole _ _ zero2 _ _
  unfold owns; iexists _; isplitr
  swap; · iexact H17
  ipureintro; exact read_whole _ _ zero2 _ _

end Cert.FfnInIdeal.Body

end
-- ==== Proof.FfnColumns.lean ====
/- The slab layout of the two mixer inputs and its inverse: what the program applies to the call's two slabs gives back the columns. -/
module

public import proofs.«01_k».proof.Proof.Gen.FfnInIdeal
public import proofs.«01_k».proof.Proof.Gen.FfnInIdeal.Launch
public import proofs.«01_k».proof.Proof.Token

@[expose] public section

set_option maxRecDepth 16384

noncomputable section

namespace Cert.FfnInIdeal.Columns

open Cert.FfnInIdeal Cert.FfnInIdeal.Gen Idealize.ShloMosaic

/-- A slab laid back as sequence, time, column: what the program does with the call's two slabs. -/
def columns {F : FTy → Type} [FloatOps F] (v : FVec F S512x256x128 .f32) : FVec F S8x4096x512 .f32 :=
  shapeCast S8x4096x512 (transpose S8x32x128x512 [2, 1, 3, 0] (shapeCast S512x32x8x128 v shapeCasts_S512x256x128_S512x32x8x128)
    transposes_S512x32x8x128_S8x32x128x512_2_1_3_0) shapeCasts_S8x32x128x512_S8x4096x512

/-- An array as a slab: channel, then chunk and sequence, then lane. -/
def slabOf (y : FVec Ideal S8x4096x512 .f32) : FVec Ideal S512x256x128 .f32 := fun i =>
  y (ix3 (⟨(i 1).val % 8, by omega⟩ : Fin 8)
    (⟨(i 1).val / 8 * 128 + (i 2).val, by
      have h1 : (i 1).val < 256 := (i 1).isLt
      have h2 : (i 2).val < 128 := (i 2).isLt
      omega⟩ : Fin 4096) (i 0 : Fin 512))

/-- The slab at a channel, a chunk's sequence and a lane. -/
theorem slabOf_at (y : FVec Ideal S8x4096x512 .f32) (t : Fin 32) (s : Fin 8) (l : Fin 128) (ch : Fin 512) :
    slabOf y (ix3 ch (⟨8 * t.val + s.val, by omega⟩ : Fin 256) l) = y (ix3 s (⟨t.val * 128 + l.val, by omega⟩ : Fin 4096) ch) := by
  show y (ix3 (⟨(8 * t.val + s.val) % 8, _⟩ : Fin 8) (⟨(8 * t.val + s.val) / 8 * 128 + l.val, _⟩ : Fin 4096) ch) = _
  have hs : (8 * t.val + s.val) % 8 = s.val := by omega
  have ht : (8 * t.val + s.val) / 8 = t.val := by omega
  simp only [hs, ht]

/-- Laying the slab back at a sequence, a time and a column. -/
theorem columns_at (v : FVec Ideal S512x256x128 .f32) (t : Fin 32) (s : Fin 8) (l : Fin 128) (ch : Fin 512) :
    columns v (ix3 s (⟨t.val * 128 + l.val, by omega⟩ : Fin 4096) ch) = v (ix3 ch (⟨8 * t.val + s.val, by omega⟩ : Fin 256) l) := by
  refine (shapeCast_apply _ _ _ (ix4 s t l ch) ?_).trans ?_
  · rw [Shape.rowMajor_val_four, Shape.rowMajor_val_three]
    show ((s.val * 32 + t.val) * 128 + l.val) * 512 + ch.val = (s.val * 4096 + (t.val * 128 + l.val)) * 512 + ch.val
    ring
  refine Eq.trans (b := shapeCast S512x32x8x128 v shapeCasts_S512x256x128_S512x32x8x128 (ix4 ch t s l)) (by pointwise) ?_
  refine shapeCast_apply _ _ _ _ ?_
  rw [Shape.rowMajor_val_four, Shape.rowMajor_val_three]
  show (ch.val * 256 + (8 * t.val + s.val)) * 128 + l.val = ((ch.val * 32 + t.val) * 8 + s.val) * 128 + l.val
  ring

/-- Laying an array's slab back gives the array. -/
theorem columns_slabOf (y : FVec Ideal S8x4096x512 .f32) : columns (slabOf y) = y := by
  funext i
  have h1 : (i 1).val < 4096 := (i 1).isLt
  let t : Fin 32 := ⟨(i 1).val / 128, by omega⟩
  let l : Fin 128 := ⟨(i 1).val % 128, by omega⟩
  have e : ix3 (i 0 : Fin 8) (⟨t.val * 128 + l.val, by show (i 1).val / 128 * 128 + (i 1).val % 128 < 4096; omega⟩ : Fin 4096) (i 2 : Fin 512) = i :=
    (congrArg (fun y => ix3 (i 0 : Fin 8) y (i 2 : Fin 512)) (Fin.ext (Nat.div_add_mod' _ _))).trans (eq_ix3 i).symm
  exact (congrArg (columns (slabOf y)) e.symm).trans
    ((columns_at _ t (i 0) l (i 2)).trans ((slabOf_at y t (i 0) l (i 2)).trans (congrArg y e)))

end Cert.FfnInIdeal.Columns

end
-- ==== Proof.FfnLaunch.lean ====
/- The launch of the input call over any float values: the pipeline's proof data from the body's triple, the run of the whole program, and the frame. -/
module

public import proofs.«01_k».proof.Proof.FfnBody
public import proofs.«01_k».proof.Proof.FfnColumns
public import Idealize.ShloMosaic.Lib.Claim
public import Idealize.ShloMosaic.Lib.Pipeline.Value

@[expose] public section

set_option maxRecDepth 16384

noncomputable section

namespace Cert.FfnInIdeal.Launch

open Cert.FfnInIdeal Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: each input window at its block, each output window at what the body leaves. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => Body.tokens (iblk m c 0 t) (iblk m c 1 t) (iblk m c 2 t) (iblk m c 3 t) (iblk m c 4 t) (iblk m c 5 t) (iblk m c 6 t)
    | ⟨12, _⟩ => Body.plain (iblk m c 0 t) (iblk m c 1 t) (iblk m c 2 t) (iblk m c 3 t) (iblk m c 4 t) (iblk m c 5 t) (iblk m c 6 t)
    | ⟨13, _⟩ => Body.product (iblk m c 0 t) (iblk m c 1 t) (iblk m c 2 t) (iblk m c 3 t) (iblk m c 4 t) (iblk m c 5 t) (iblk m c 6 t)
    | ⟨14, _⟩ => Body.gateCast (iblk m c 7 t)
    | ⟨15, _⟩ => Body.upCast (iblk m c 8 t)
    | ⟨16, _⟩ => Body.downCast (iblk m c 9 t)
    | ⟨17, _⟩ => Body.outCast (iblk m c 10 t)
    | ⟨n + 18, h⟩ => absurd h (show ¬ n + 18 < 18 by omega)
  Φ _ := Pipeline.ΦA spec0 c
  q _ := fullShare
  owed _ := 0

/-- The arrays are as the region finds them. -/
theorem data_A (c : Dev nD) (w : Fin cfg0.W) : (data m 0 c).A w = V m c (Pipeline.arrRef spec0 w) := by
  dsimp only [data]

/-- Input window 0 keeps its block. -/
theorem kept_0 (c : Dev nD) (t : Fin cfg0.N) : (data m 0 c).after 0 t = iblk m c 0 t := by dsimp only [data]
/-- Input window 1 keeps its block. -/
theorem kept_1 (c : Dev nD) (t : Fin cfg0.N) : (data m 0 c).after 1 t = iblk m c 1 t := by dsimp only [data]
/-- Input window 2 keeps its block. -/
theorem kept_2 (c : Dev nD) (t : Fin cfg0.N) : (data m 0 c).after 2 t = iblk m c 2 t := by dsimp only [data]
/-- Input window 3 keeps its block. -/
theorem kept_3 (c : Dev nD) (t : Fin cfg0.N) : (data m 0 c).after 3 t = iblk m c 3 t := by dsimp only [data]
/-- Input window 4 keeps its block. -/
theorem kept_4 (c : Dev nD) (t : Fin cfg0.N) : (data m 0 c).after 4 t = iblk m c 4 t := by dsimp only [data]
/-- Input window 5 keeps its block. -/
theorem kept_5 (c : Dev nD) (t : Fin cfg0.N) : (data m 0 c).after 5 t = iblk m c 5 t := by dsimp only [data]
/-- Input window 6 keeps its block. -/
theorem kept_6 (c : Dev nD) (t : Fin cfg0.N) : (data m 0 c).after 6 t = iblk m c 6 t := by dsimp only [data]
/-- Input window 7 keeps its block. -/
theorem kept_7 (c : Dev nD) (t : Fin cfg0.N) : (data m 0 c).after 7 t = iblk m c 7 t := by dsimp only [data]
/-- Input window 8 keeps its block. -/
theorem kept_8 (c : Dev nD) (t : Fin cfg0.N) : (data m 0 c).after 8 t = iblk m c 8 t := by dsimp only [data]
/-- Input window 9 keeps its block. -/
theorem kept_9 (c : Dev nD) (t : Fin cfg0.N) : (data m 0 c).after 9 t = iblk m c 9 t := by dsimp only [data]
/-- Input window 10 keeps its block. -/
theorem kept_10 (c : Dev nD) (t : Fin cfg0.N) : (data m 0 c).after 10 t = iblk m c 10 t := by dsimp only [data]
/-- Output window 11 ends at the tile of the residual stream. -/
theorem left_11 (c : Dev nD) (t : Fin cfg0.N) : (data m 0 c).after 11 t = Body.tokens (iblk m c 0 t) (iblk m c 1 t) (iblk m c 2 t) (iblk m c 3 t) (iblk m c 4 t) (iblk m c 5 t) (iblk m c 6 t) := by dsimp only [data]
/-- Output window 12 ends at the S5 columns as a slab. -/
theorem left_12 (c : Dev nD) (t : Fin cfg0.N) : (data m 0 c).after 12 t = Body.plain (iblk m c 0 t) (iblk m c 1 t) (iblk m c 2 t) (iblk m c 3 t) (iblk m c 4 t) (iblk m c 5 t) (iblk m c 6 t) := by dsimp only [data]
/-- Output window 13 ends at the gated convolution columns as a slab. -/
theorem left_13 (c : Dev nD) (t : Fin cfg0.N) : (data m 0 c).after 13 t = Body.product (iblk m c 0 t) (iblk m c 1 t) (iblk m c 2 t) (iblk m c 3 t) (iblk m c 4 t) (iblk m c 5 t) (iblk m c 6 t) := by dsimp only [data]
/-- Output window 14 ends at the gate rows cast. -/
theorem left_14 (c : Dev nD) (t : Fin cfg0.N) : (data m 0 c).after 14 t = Body.gateCast (iblk m c 7 t) := by dsimp only [data]
/-- Output window 15 ends at the up rows cast. -/
theorem left_15 (c : Dev nD) (t : Fin cfg0.N) : (data m 0 c).after 15 t = Body.upCast (iblk m c 8 t) := by dsimp only [data]
/-- Output window 16 ends at the down rows cast. -/
theorem left_16 (c : Dev nD) (t : Fin cfg0.N) : (data m 0 c).after 16 t = Body.downCast (iblk m c 9 t) := by dsimp only [data]
/-- Output window 17 ends at the output rows cast. -/
theorem left_17 (c : Dev nD) (t : Fin cfg0.N) : (data m 0 c).after 17 t = Body.outCast (iblk m c 10 t) := by dsimp only [data]

/-- Input window 0 is found at its block. -/
theorem found_0 (c : Dev nD) (t : Fin cfg0.N) (d) : (data m 0 c).before 0 t d = iblk m c 0 t :=
  before0_0_of m (data m 0 c) (data_A m c 0) (kept_0 m c) t d
/-- Input window 1 is found at its block. -/
theorem found_1 (c : Dev nD) (t : Fin cfg0.N) (d) : (data m 0 c).before 1 t d = iblk m c 1 t :=
  before0_1_of m (data m 0 c) (data_A m c 1) (kept_1 m c) t d
/-- Input window 2 is found at its block. -/
theorem found_2 (c : Dev nD) (t : Fin cfg0.N) (d) : (data m 0 c).before 2 t d = iblk m c 2 t :=
  before0_2_of m (data m 0 c) (data_A m c 2) (kept_2 m c) t d
/-- Input window 3 is found at its block. -/
theorem found_3 (c : Dev nD) (t : Fin cfg0.N) (d) : (data m 0 c).before 3 t d = iblk m c 3 t :=
  before0_3_of m (data m 0 c) (data_A m c 3) (kept_3 m c) t d
/-- Input window 4 is found at its block. -/
theorem found_4 (c : Dev nD) (t : Fin cfg0.N) (d) : (data m 0 c).before 4 t d = iblk m c 4 t :=
  before0_4_of m (data m 0 c) (data_A m c 4) (kept_4 m c) t d
/-- Input window 5 is found at its block. -/
theorem found_5 (c : Dev nD) (t : Fin cfg0.N) (d) : (data m 0 c).before 5 t d = iblk m c 5 t :=
  before0_5_of m (data m 0 c) (data_A m c 5) (kept_5 m c) t d
/-- Input window 6 is found at its block. -/
theorem found_6 (c : Dev nD) (t : Fin cfg0.N) (d) : (data m 0 c).before 6 t d = iblk m c 6 t :=
  before0_6_of m (data m 0 c) (data_A m c 6) (kept_6 m c) t d
/-- Input window 7 is found at its block. -/
theorem found_7 (c : Dev nD) (t : Fin cfg0.N) (d) : (data m 0 c).before 7 t d = iblk m c 7 t :=
  before0_7_of m (data m 0 c) (data_A m c 7) (kept_7 m c) t d
/-- Input window 8 is found at its block. -/
theorem found_8 (c : Dev nD) (t : Fin cfg0.N) (d) : (data m 0 c).before 8 t d = iblk m c 8 t :=
  before0_8_of m (data m 0 c) (data_A m c 8) (kept_8 m c) t d
/-- Input window 9 is found at its block. -/
theorem found_9 (c : Dev nD) (t : Fin cfg0.N) (d) : (data m 0 c).before 9 t d = iblk m c 9 t :=
  before0_9_of m (data m 0 c) (data_A m c 9) (kept_9 m c) t d
/-- Input window 10 is found at its block. -/
theorem found_10 (c : Dev nD) (t : Fin cfg0.N) (d) : (data m 0 c).before 10 t d = iblk m c 10 t :=
  before0_10_of m (data m 0 c) (data_A m c 10) (kept_10 m c) t d

/-- What the body is called with at point `t`. -/
def entry (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d))
    ∗ (∃ d, owns (c : Thread nD τ) (st0_8 t) fullShare ((data m 0 c).before 8 t d))
    ∗ (∃ d, owns (c : Thread nD τ) (st0_9 t) fullShare ((data m 0 c).before 9 t d))
    ∗ (∃ d, owns (c : Thread nD τ) (st0_10 t) fullShare ((data m 0 c).before 10 t d))
    ∗ (∃ d, owns (c : Thread nD τ) (st0_11 t) fullShare ((data m 0 c).before 11 t d))
    ∗ (∃ d, owns (c : Thread nD τ) (st0_12 t) fullShare ((data m 0 c).before 12 t d))
    ∗ (∃ d, owns (c : Thread nD τ) (st0_13 t) fullShare ((data m 0 c).before 13 t d))
    ∗ (∃ d, owns (c : Thread nD τ) (st0_14 t) fullShare ((data m 0 c).before 14 t d))
    ∗ (∃ d, owns (c : Thread nD τ) (st0_15 t) fullShare ((data m 0 c).before 15 t d))
    ∗ (∃ d, owns (c : Thread nD τ) (st0_16 t) fullShare ((data m 0 c).before 16 t d))
    ∗ (∃ d, owns (c : Thread nD τ) (st0_17 t) fullShare ((data m 0 c).before 17 t d)))

/-- What it returns. -/
def exit (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t)
    ∗ owns (c : Thread nD τ) (st0_7 t) fullShare ((data m 0 c).after 7 t)
    ∗ owns (c : Thread nD τ) (st0_8 t) fullShare ((data m 0 c).after 8 t)
    ∗ owns (c : Thread nD τ) (st0_9 t) fullShare ((data m 0 c).after 9 t)
    ∗ owns (c : Thread nD τ) (st0_10 t) fullShare ((data m 0 c).after 10 t)
    ∗ owns (c : Thread nD τ) (st0_11 t) fullShare ((data m 0 c).after 11 t)
    ∗ owns (c : Thread nD τ) (st0_12 t) fullShare ((data m 0 c).after 12 t)
    ∗ owns (c : Thread nD τ) (st0_13 t) fullShare ((data m 0 c).after 13 t)
    ∗ owns (c : Thread nD τ) (st0_14 t) fullShare ((data m 0 c).after 14 t)
    ∗ owns (c : Thread nD τ) (st0_15 t) fullShare ((data m 0 c).after 15 t)
    ∗ owns (c : Thread nD τ) (st0_16 t) fullShare ((data m 0 c).after 16 t)
    ∗ owns (c : Thread nD τ) (st0_17 t) fullShare ((data m 0 c).after 17 t))

/-- The body at any point. -/
theorem sound (c : Dev nD) (t : Fin cfg0.N) :
    entry m c t ⊢ wp frame (wpE (defs₀ (F := F)) Variants.none c none) Set.univ (bodyAt0 t) (fun _ => exit m c t) := by
  unfold entry exit bodyAt0
  simp only [found_0, found_1, found_2, found_3, found_4, found_5, found_6, found_7, found_8, found_9, found_10]
  rw [show (data m 0 c).Φ t.succ = (data m 0 c).Φ t.castSucc from rfl,
    show (data m 0 c).owesAt () t.succ = (data m 0 c).owesAt () t.castSucc from rfl,
    kept_0, kept_1, kept_2, kept_3, kept_4, kept_5, kept_6, kept_7, kept_8, kept_9, kept_10, left_11, left_12, left_13, left_14, left_15, left_16, left_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (Body.body_run c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body table's row at point `t`. -/
theorem row (t : Fin cfg0.N) : defs₀ (F := F) .tc cfg0.body (cfg0.bodyArgs t (cfg0.slots t)) = bodyAt0 t := by
  unfold defs₀; rw [Defs.onTc_tc]

/-- The pipeline's obligation on the body, at every point. -/
theorem obligation (c : Dev nD) : BodyObligation (data (F := F) m 0 c) (defs₀ (F := F)) Variants.none () Set.univ := fun t => by
  rw [bigSep_W0, bigSep_W0, row]
  exact triple_restated (sound m c t) rfl .rfl fun _ => .rfl

/-- What the buffers outside the pipeline hold at the end: the lines after the call run on the call's results. -/
abbrev later (c : Dev nD) (b : Ref sig .tc) : Buf (Elt F) ((c : Thread nD τ).loc b) :=
  Pipeline.afterTail₀ cfgs (data m) 0 (V0 m) [hostOps1] c b

/-- The S5 columns are the first slab laid back. -/
theorem later_plain (c : Dev nD) : later m c main_v20 = Columns.columns ((data m 0 c).arrAt 12 cfg0.N) := by
  have h := Pipeline.withArrays_arr spec0 launch0.win.arr_inj c (V0 m c) (fun w => (data m 0 c).arrAt w cfg0.N) 12
  unfold later Pipeline.afterTail₀
  rw [← h]
  simp only [hostOps1, List.flatten_cons, List.flatten_nil, List.append_nil]
  after_results_simp
  rfl

/-- The gated convolution columns are the second slab laid back. -/
theorem later_product (c : Dev nD) : later m c main_v23 = Columns.columns ((data m 0 c).arrAt 13 cfg0.N) := by
  have h := Pipeline.withArrays_arr spec0 launch0.win.arr_inj c (V0 m c) (fun w => (data m 0 c).arrAt w cfg0.N) 13
  unfold later Pipeline.afterTail₀
  rw [← h]
  simp only [hostOps1, List.flatten_cons, List.flatten_nil, List.append_nil]
  after_results_simp
  rfl

set_option backward.isDefEq.respectTransparency.types false in
/-- The launch: every array as the pipeline leaves it, every other buffer as the lines after the call leave it, every counter at zero. -/
theorem run_quiescent : θ_run defs (onTc (τ := τ) (main (F := F))) (s₀ m ρ)
    (fun r => (Pipeline.FramePost cfgs (data m) 0 (later m)) r ∧ r.2.sem = fun _ => 0) :=
  Pipeline.θ_run_frame_around (Q' := _) cfgs (data m) (0 : Fin 1) launch0 defs₀ Variants.none m ρ main
    (hbody := fun c => (obligation m c).loose) (hshare := fun c => (data m 0 c).share_full fun _ => rfl)
    (howed := fun _ _ => rfl) (V₀ := V0 m) (opss := [hostOps1])
    (hsub := sfx_sub) (hfresh := sfx_fresh) (hkeep := sfx_keeps) (hmain := hmain m Variants.none) (hA := data_A m) (hΦ := fun _ _ => rfl)

/-- The launch without the counters. -/
theorem run : θ_run defs (onTc (τ := τ) (main (F := F))) (s₀ m ρ) (Pipeline.FramePost cfgs (data m) 0 (later m)) :=
  (θ_run defs _ _).mono (fun _ h => h.1) (run_quiescent m ρ)

/-- The frame: the argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (data m) (data_A m) (run m ρ)) ((θ_run defs _ _).mono (fun _ h => h.2) (run_quiescent m ρ))

/-- The launch ends with each result array at its written-back blocks, the two slabs laid back, the arguments unchanged and the counters at zero. -/
theorem run_result : θ_run defs (onTc (τ := τ) (main (F := F))) ⟨m, fun _ => 0, ρ⟩ (fun r => ((∀ c : Dev nD,
      r.2.mem ((c.tc : Thread nD τ).loc main_v17_0) = (data m 0 c).arrAt 11 cfg0.N
      ∧ r.2.mem ((c.tc : Thread nD τ).loc main_v20) = Columns.columns ((data m 0 c).arrAt 12 cfg0.N)
      ∧ r.2.mem ((c.tc : Thread nD τ).loc main_v23) = Columns.columns ((data m 0 c).arrAt 13 cfg0.N)
      ∧ r.2.mem ((c.tc : Thread nD τ).loc main_v17_3) = (data m 0 c).arrAt 14 cfg0.N
      ∧ r.2.mem ((c.tc : Thread nD τ).loc main_v17_4) = (data m 0 c).arrAt 15 cfg0.N
      ∧ r.2.mem ((c.tc : Thread nD τ).loc main_v17_5) = (data m 0 c).arrAt 16 cfg0.N
      ∧ r.2.mem ((c.tc : Thread nD τ).loc main_v17_6) = (data m 0 c).arrAt 17 cfg0.N)
      ∧ (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)))
      ∧ r.2.sem = fun _ => 0) :=
  (θ_run defs _ _).mono (fun _ h => ⟨⟨fun c => ⟨(h.1 c).1 11, ((h.1 c).2 main_v20 (Pipeline.mem_restRefs_of main_v20 (by decide) (by decide))).trans (later_plain m c),
    ((h.1 c).2 main_v23 (Pipeline.mem_restRefs_of main_v23 (by decide) (by decide))).trans (later_product m c),
     (h.1 c).1 14, (h.1 c).1 15, (h.1 c).1 16, (h.1 c).1 17⟩, h.2.1⟩, h.2.2⟩) (θ_run_and (run m ρ) (frame m ρ))

/-! ## The output arrays, block by block -/

/-- Distinct points write distinct blocks of output 11. -/
theorem index_inj_11 : ∀ t t' : Fin cfg0.N, win0_11.index t = win0_11.index t' → t = t' :=
  (by decide +kernel : ∀ t t' : Fin grid0.N, win0_11.index t = win0_11.index t' → t = t')

/-- Block `t` of the final array of output 11. -/
theorem block_eq_11 (c : Dev nD) (t : Fin cfg0.N) :
    ((cfg0.win 11).blk t).view.read (Elt F) ((data m 0 c).arrAt 11 cfg0.N) = (cfg0.win 11).cut (grid0.coords t) (Body.tokens (iblk m c 0 t) (iblk m c 1 t) (iblk m c 2 t) (iblk m c 3 t) (iblk m c 4 t) (iblk m c 5 t) (iblk m c 6 t)) := by
  rw [(data m 0 c).read_blk_arrAt_eq_flushed 11 (fun t t' _ _ hne => (cfg0.win 11).disjoint_blk fun h => hne (index_inj_11 t t' h))
    cfg0.N t t.isLt (flush0_11 t)]
  show (cfg0.win 11).cut (grid0.coords t) ((data m 0 c).after 11 t) = _
  rw [left_11]

/-- Distinct points write distinct blocks of output 12. -/
theorem index_inj_12 : ∀ t t' : Fin cfg0.N, win0_12.index t = win0_12.index t' → t = t' :=
  (by decide +kernel : ∀ t t' : Fin grid0.N, win0_12.index t = win0_12.index t' → t = t')

/-- Block `t` of the final array of output 12. -/
theorem block_eq_12 (c : Dev nD) (t : Fin cfg0.N) :
    ((cfg0.win 12).blk t).view.read (Elt F) ((data m 0 c).arrAt 12 cfg0.N) = (cfg0.win 12).cut (grid0.coords t) (Body.plain (iblk m c 0 t) (iblk m c 1 t) (iblk m c 2 t) (iblk m c 3 t) (iblk m c 4 t) (iblk m c 5 t) (iblk m c 6 t)) := by
  rw [(data m 0 c).read_blk_arrAt_eq_flushed 12 (fun t t' _ _ hne => (cfg0.win 12).disjoint_blk fun h => hne (index_inj_12 t t' h))
    cfg0.N t t.isLt (flush0_12 t)]
  show (cfg0.win 12).cut (grid0.coords t) ((data m 0 c).after 12 t) = _
  rw [left_12]

/-- Distinct points write distinct blocks of output 13. -/
theorem index_inj_13 : ∀ t t' : Fin cfg0.N, win0_13.index t = win0_13.index t' → t = t' :=
  (by decide +kernel : ∀ t t' : Fin grid0.N, win0_13.index t = win0_13.index t' → t = t')

/-- Block `t` of the final array of output 13. -/
theorem block_eq_13 (c : Dev nD) (t : Fin cfg0.N) :
    ((cfg0.win 13).blk t).view.read (Elt F) ((data m 0 c).arrAt 13 cfg0.N) = (cfg0.win 13).cut (grid0.coords t) (Body.product (iblk m c 0 t) (iblk m c 1 t) (iblk m c 2 t) (iblk m c 3 t) (iblk m c 4 t) (iblk m c 5 t) (iblk m c 6 t)) := by
  rw [(data m 0 c).read_blk_arrAt_eq_flushed 13 (fun t t' _ _ hne => (cfg0.win 13).disjoint_blk fun h => hne (index_inj_13 t t' h))
    cfg0.N t t.isLt (flush0_13 t)]
  show (cfg0.win 13).cut (grid0.coords t) ((data m 0 c).after 13 t) = _
  rw [left_13]

/-- Distinct points write distinct blocks of output 14. -/
theorem index_inj_14 : ∀ t t' : Fin cfg0.N, win0_14.index t = win0_14.index t' → t = t' :=
  (by decide +kernel : ∀ t t' : Fin grid0.N, win0_14.index t = win0_14.index t' → t = t')

/-- Block `t` of the final array of output 14. -/
theorem block_eq_14 (c : Dev nD) (t : Fin cfg0.N) :
    ((cfg0.win 14).blk t).view.read (Elt F) ((data m 0 c).arrAt 14 cfg0.N) = (cfg0.win 14).cut (grid0.coords t) (Body.gateCast (iblk m c 7 t)) := by
  rw [(data m 0 c).read_blk_arrAt_eq_flushed 14 (fun t t' _ _ hne => (cfg0.win 14).disjoint_blk fun h => hne (index_inj_14 t t' h))
    cfg0.N t t.isLt (flush0_14 t)]
  show (cfg0.win 14).cut (grid0.coords t) ((data m 0 c).after 14 t) = _
  rw [left_14]

/-- Distinct points write distinct blocks of output 15. -/
theorem index_inj_15 : ∀ t t' : Fin cfg0.N, win0_15.index t = win0_15.index t' → t = t' :=
  (by decide +kernel : ∀ t t' : Fin grid0.N, win0_15.index t = win0_15.index t' → t = t')

/-- Block `t` of the final array of output 15. -/
theorem block_eq_15 (c : Dev nD) (t : Fin cfg0.N) :
    ((cfg0.win 15).blk t).view.read (Elt F) ((data m 0 c).arrAt 15 cfg0.N) = (cfg0.win 15).cut (grid0.coords t) (Body.upCast (iblk m c 8 t)) := by
  rw [(data m 0 c).read_blk_arrAt_eq_flushed 15 (fun t t' _ _ hne => (cfg0.win 15).disjoint_blk fun h => hne (index_inj_15 t t' h))
    cfg0.N t t.isLt (flush0_15 t)]
  show (cfg0.win 15).cut (grid0.coords t) ((data m 0 c).after 15 t) = _
  rw [left_15]

/-- Distinct odd points write distinct blocks of output 16. -/
theorem index_inj_16 : ∀ t t' : Fin cfg0.N, t.val % 2 = 1 → t'.val % 2 = 1 → win0_16.index t = win0_16.index t' → t = t' :=
  (by decide +kernel : ∀ t t' : Fin grid0.N, t.val % 2 = 1 → t'.val % 2 = 1 → win0_16.index t = win0_16.index t' → t = t')

/-- Block `t` of the final array of output 16, which the pipeline writes back at odd points. -/
theorem block_eq_16 (c : Dev nD) (t : Fin cfg0.N) (ht : t.val % 2 = 1) :
    ((cfg0.win 16).blk t).view.read (Elt F) ((data m 0 c).arrAt 16 cfg0.N) = (cfg0.win 16).cut (grid0.coords t) (Body.downCast (iblk m c 9 t)) := by
  rw [(data m 0 c).read_blk_arrAt_eq_flushed 16 (fun t t' hf hf' hne => (cfg0.win 16).disjoint_blk fun h =>
    hne (index_inj_16 t t' ((flush0_16 t).mp hf) ((flush0_16 t').mp hf') h)) cfg0.N t t.isLt ((flush0_16 t).mpr ht)]
  show (cfg0.win 16).cut (grid0.coords t) ((data m 0 c).after 16 t) = _
  rw [left_16]

/-- Distinct points write distinct blocks of output 17. -/
theorem index_inj_17 : ∀ t t' : Fin cfg0.N, win0_17.index t = win0_17.index t' → t = t' :=
  (by decide +kernel : ∀ t t' : Fin grid0.N, win0_17.index t = win0_17.index t' → t = t')

/-- Block `t` of the final array of output 17. -/
theorem block_eq_17 (c : Dev nD) (t : Fin cfg0.N) :
    ((cfg0.win 17).blk t).view.read (Elt F) ((data m 0 c).arrAt 17 cfg0.N) = (cfg0.win 17).cut (grid0.coords t) (Body.outCast (iblk m c 10 t)) := by
  rw [(data m 0 c).read_blk_arrAt_eq_flushed 17 (fun t t' _ _ hne => (cfg0.win 17).disjoint_blk fun h => hne (index_inj_17 t t' h))
    cfg0.N t t.isLt (flush0_17 t)]
  show (cfg0.win 17).cut (grid0.coords t) ((data m 0 c).after 17 t) = _
  rw [left_17]

end Cert.FfnInIdeal.Launch

end
-- ==== Proof.FfnRef.lean ====
/- The reference of the input call, read at a sequence `b`, a time `t` and a column: each stage as the token arithmetic. -/
module

public import proofs.«01_k».proof.Proof.Gen.FfnInRefIdeal.Read
public import proofs.«01_k».proof.Proof.Token

@[expose] public section

set_option maxRecDepth 16384

noncomputable section

namespace Cert.FfnInRefIdeal.At

open Cert.FfnInRefIdeal Cert.FfnInRefIdeal.Gen Cert.FfnInRefIdeal.Read Idealize.ShloMosaic

variable (x0 : FVec Ideal S8x4096x1024 .f32) (x1 : FVec Ideal S1x1024 .f32)
  (x2 x3 : FVec Ideal S1x1024x2816 .f32) (x4 : FVec Ideal S1x2816x1024 .f32) (x5 : FVec Ideal S1x1024 .f32)
  (x6 : FVec Ideal S1x1024x1536 .f32)
  (b : Fin 8) (t : Fin 4096)

/-- The normalised row before the feed-forward step. -/
theorem normed_at (j : Fin 1024) :
    val_main_v13 (F := Ideal) x0 x1 (ix3 b t j) = x0 (ix3 b t j) * Token.rinv (fun j => x0 (ix3 b t j)) * x1 (ix2 0 j) := by
  pointwise [val_main_v13, val_main_v12, val_main_v11, val_main_v10, val_main_v9, val_main_v8, val_main_v7, val_main_v6,
    val_main_cst_1, val_main_v5, val_main_v4, val_main_cst_0, val_main_v3, val_main_v2, val_main_cst, val_main_v1,
    val_main_v0, Token.rinv]

/-- The hidden unit. -/
theorem hid_at (f : Fin 2816) :
    val_main_v20 (F := Ideal) x0 x1 x2 x3 (ix3 b t f)
      = Token.hid (fun j => x0 (ix3 b t j)) (fun j => x1 (ix2 0 j)) (fun k => x2 (ix3 0 k f)) (fun k => x3 (ix3 0 k f)) := by
  have h : val_main_v20 (F := Ideal) x0 x1 x2 x3 (ix3 b t f)
      = (∑ k : Fin 1024, val_main_v13 (F := Ideal) x0 x1 (ix3 b t k) * x2 (ix3 0 k f))
        * Ideal.logistic (∑ k : Fin 1024, val_main_v13 (F := Ideal) x0 x1 (ix3 b t k) * x2 (ix3 0 k f))
        * ∑ k : Fin 1024, val_main_v13 (F := Ideal) x0 x1 (ix3 b t k) * x3 (ix3 0 k f) := by
    pointwise [val_main_v20, val_main_v19, val_main_v18, val_main_call0_v5, val_main_call0_v4, val_main_call0_cst_0,
      val_main_call0_v3, val_main_call0_v2, val_main_call0_cst, val_main_call0_v1, val_main_call0_v0, val_main_v17,
      val_main_v15, val_main_v14, Ideal.logistic]
  rw [h, Token.hid]; simp only [normed_at]

/-- The token after the feed-forward half step. -/
def steppedAt : Fin 1024 → EReal :=
  Token.ffn (fun j => x0 (ix3 b t j)) (fun j => x1 (ix2 0 j)) (fun k f => x2 (ix3 0 k f)) (fun k f => x3 (ix3 0 k f))
    (fun f j => x4 (ix3 0 f j))

/-- The residual stream's result. -/
theorem stepped_at (j : Fin 1024) :
    val_main_v24 (F := Ideal) x0 x1 x2 x3 x4 (ix3 b t j) = steppedAt x0 x1 x2 x3 x4 b t j := by
  have h : val_main_v24 (F := Ideal) x0 x1 x2 x3 x4 (ix3 b t j)
      = x0 (ix3 b t j) + Ideal.ofBits .f32 0x3F000000#32
        * ∑ f : Fin 2816, val_main_v20 (F := Ideal) x0 x1 x2 x3 (ix3 b t f) * x4 (ix3 0 f j) := by
    pointwise [val_main_v24, val_main_v23, val_main_v22, val_main_cst_2, val_main_v21, val_main_v16]
  rw [h, steppedAt, Token.ffn]; simp only [hid_at]

/-- A column of the input projection. -/
theorem projected_at (j : Fin 1536) :
    val_main_v40 (F := Ideal) x0 x1 x2 x3 x4 x5 x6 (ix3 b t j)
      = Token.projected (steppedAt x0 x1 x2 x3 x4 b t) (fun j => x5 (ix2 0 j)) (fun k => x6 (ix3 0 k j)) := by
  have hn : ∀ k, val_main_v38 (F := Ideal) x0 x1 x2 x3 x4 x5 (ix3 b t k)
      = val_main_v24 (F := Ideal) x0 x1 x2 x3 x4 (ix3 b t k)
        * Token.rinv (fun k => val_main_v24 (F := Ideal) x0 x1 x2 x3 x4 (ix3 b t k)) * x5 (ix2 0 k) := by
    intro k
    pointwise [val_main_v38, val_main_v37, val_main_v36, val_main_v35, val_main_v34, val_main_v33, val_main_v32, val_main_v31,
      val_main_cst_5, val_main_v30, val_main_v29, val_main_cst_4, val_main_v28, val_main_v27, val_main_cst_3, val_main_v26,
      val_main_v25, Token.rinv]
  have h : val_main_v40 (F := Ideal) x0 x1 x2 x3 x4 x5 x6 (ix3 b t j)
      = ∑ k : Fin 1024, val_main_v38 (F := Ideal) x0 x1 x2 x3 x4 x5 (ix3 b t k) * x6 (ix3 0 k j) := by
    pointwise [val_main_v40, val_main_v39]
  rw [h, Token.projected]; simp only [hn, stepped_at]

/-- An S5 column. -/
theorem plain_at (ch : Fin 512) :
    val_main_v51 (F := Ideal) x0 x1 x2 x3 x4 x5 x6 (ix3 b t ch)
      = Token.projected (steppedAt x0 x1 x2 x3 x4 b t) (fun j => x5 (ix2 0 j))
          (fun k => x6 (ix3 0 k (⟨ch.val, by omega⟩ : Fin 1536))) := by
  have h : val_main_v51 (F := Ideal) x0 x1 x2 x3 x4 x5 x6 (ix3 b t ch)
      = val_main_v40 (F := Ideal) x0 x1 x2 x3 x4 x5 x6 (ix3 b t (⟨ch.val, by omega⟩ : Fin 1536)) := by
    pointwise [val_main_v51]
  rw [h, projected_at]

/-- A gated convolution column. -/
theorem product_at (ch : Fin 512) :
    val_main_v50 (F := Ideal) x0 x1 x2 x3 x4 x5 x6 (ix3 b t ch)
      = Token.projected (steppedAt x0 x1 x2 x3 x4 b t) (fun j => x5 (ix2 0 j))
          (fun k => x6 (ix3 0 k (⟨512 + ch.val, by omega⟩ : Fin 1536)))
        * Ideal.logistic (Token.projected (steppedAt x0 x1 x2 x3 x4 b t)
            (fun j => x5 (ix2 0 j)) (fun k => x6 (ix3 0 k (⟨1024 + ch.val, by omega⟩ : Fin 1536)))) := by
  have h1 : val_main_v42 (F := Ideal) x0 x1 x2 x3 x4 x5 x6 (ix3 b t ch)
      = val_main_v40 (F := Ideal) x0 x1 x2 x3 x4 x5 x6 (ix3 b t (⟨512 + ch.val, by omega⟩ : Fin 1536)) := by
    pointwise [val_main_v42, val_main_v41]
  have h2 : val_main_v43 (F := Ideal) x0 x1 x2 x3 x4 x5 x6 (ix3 b t ch)
      = val_main_v40 (F := Ideal) x0 x1 x2 x3 x4 x5 x6 (ix3 b t (⟨1024 + ch.val, by omega⟩ : Fin 1536)) := by
    have e : val_main_v43 (F := Ideal) x0 x1 x2 x3 x4 x5 x6 (ix3 b t ch)
        = val_main_v41 (F := Ideal) x0 x1 x2 x3 x4 x5 x6 (ix3 b t (⟨512 + ch.val, by omega⟩ : Fin 1024)) := by
      pointwise [val_main_v43]
    rw [e]
    refine Eq.trans (b := val_main_v40 (F := Ideal) x0 x1 x2 x3 x4 x5 x6 (ix3 b t (⟨512 + (512 + ch.val), by omega⟩ : Fin 1536))) ?_ ?_
    · pointwise [val_main_v41]
    · exact congrArg (fun k => val_main_v40 (F := Ideal) x0 x1 x2 x3 x4 x5 x6 (ix3 b t k)) (Fin.ext (by show 512 + (512 + ch.val) = 1024 + ch.val; omega))
  have h : val_main_v50 (F := Ideal) x0 x1 x2 x3 x4 x5 x6 (ix3 b t ch)
      = val_main_v42 (F := Ideal) x0 x1 x2 x3 x4 x5 x6 (ix3 b t ch)
        * Ideal.logistic (val_main_v43 (F := Ideal) x0 x1 x2 x3 x4 x5 x6 (ix3 b t ch)) := by
    pointwise [val_main_v50, val_main_v49, val_main_v48, val_main_cst_7, val_main_v47, val_main_v46, val_main_cst_6,
      val_main_v45, val_main_v44, Ideal.logistic]
  rw [h, h1, h2, projected_at, projected_at]

/-- The gate weights as the next calls take them. -/
theorem gate_cast_at (x : FVec Ideal S1x1024x2816 .f32) (i : Fin 1024) (j : Fin 2816) :
    val_main_v53 (F := Ideal) x (ix2 i j) = x (ix3 0 i j) := by pointwise [val_main_v53, val_main_v52]
/-- The up weights. -/
theorem up_cast_at (x : FVec Ideal S1x1024x2816 .f32) (i : Fin 1024) (j : Fin 2816) :
    val_main_v55 (F := Ideal) x (ix2 i j) = x (ix3 0 i j) := by pointwise [val_main_v55, val_main_v54]
/-- The down weights. -/
theorem down_cast_at (x : FVec Ideal S1x2816x1024 .f32) (i : Fin 2816) (j : Fin 1024) :
    val_main_v57 (F := Ideal) x (ix2 i j) = x (ix3 0 i j) := by pointwise [val_main_v57, val_main_v56]
/-- The output projection. -/
theorem out_cast_at (x : FVec Ideal S1x1024x1024 .f32) (i j : Fin 1024) :
    val_main_v59 (F := Ideal) x (ix2 i j) = x (ix3 0 i j) := by pointwise [val_main_v59, val_main_v58]

end Cert.FfnInRefIdeal.At

end
-- ==== Proof.FfnValue.lean ====
/- The input call's blocks over the extended reals: where they lie in their arrays, and what the input blocks hold. -/
module

public import proofs.«01_k».proof.Proof.FfnLaunch
public import proofs.«01_k».proof.Proof.FfnRef

@[expose] public section

set_option maxRecDepth 16384

noncomputable section

namespace Cert.FfnInIdeal.Array

open Cert.FfnInIdeal Cert.FfnInIdeal.Gen Idealize.ShloMosaic Idealize.ShloMosaic.TcCoe Idealize.SL.Sem
open Idealize.ShloMosaic.Tactic

variable (m : (ℓ : Loc nD τ sig) → Buf (Elt Ideal) ℓ) (c : Dev nD)

/-! ## The blocks' places -/

/-- The token block of a point. -/
theorem index_tokens : ∀ t : Fin grid0.N, win0_0.index t = ![0, t.val, 0] := by decide +kernel
/-- The block of gate rows to cast of a point. -/
theorem index_gate : ∀ t : Fin grid0.N, win0_7.index t = ![t.val, 0] := by decide +kernel
/-- The block of up rows to cast of a point. -/
theorem index_up : ∀ t : Fin grid0.N, win0_8.index t = ![t.val, 0] := by decide +kernel
/-- The block of down rows to cast of a point. -/
theorem index_down : ∀ t : Fin grid0.N, win0_9.index t = ![t.val / 2, 0] := by decide +kernel
/-- The block of output rows to cast of a point. -/
theorem index_wout : ∀ t : Fin grid0.N, win0_10.index t = ![t.val, 0] := by decide +kernel
/-- The output tile of a point. -/
theorem index_tile : ∀ t : Fin grid0.N, win0_11.index t = ![0, t.val, 0] := by decide +kernel
/-- The S5 slab block of a point. -/
theorem index_plain : ∀ t : Fin grid0.N, win0_12.index t = ![0, t.val, 0] := by decide +kernel
/-- The convolution slab block of a point. -/
theorem index_product : ∀ t : Fin grid0.N, win0_13.index t = ![0, t.val, 0] := by decide +kernel
/-- The cast gate rows of a point. -/
theorem index_gateCast : ∀ t : Fin grid0.N, win0_14.index t = ![t.val, 0] := by decide +kernel
/-- The cast up rows of a point. -/
theorem index_upCast : ∀ t : Fin grid0.N, win0_15.index t = ![t.val, 0] := by decide +kernel
/-- The cast down rows of a point. -/
theorem index_downCast : ∀ t : Fin grid0.N, win0_16.index t = ![t.val / 2, 0] := by decide +kernel
/-- The cast output rows of a point. -/
theorem index_woutCast : ∀ t : Fin grid0.N, win0_17.index t = ![t.val, 0] := by decide +kernel

/-! ## The input blocks at the program's arguments -/

/-- The token block. -/
theorem tokens_apply (t : Fin grid0.N) (s : Fin 8) (l : Fin 128) (j : Fin 1024) :
    iblk m c 0 t (ix3 s l j) = m ((c : Thread nD τ).loc main_arg0) (ix3 s (⟨t.val * 128 + l.val, by have : t.val < 32 := t.isLt; omega⟩ : Fin 4096) j) := by
  rw [← V_main_arg0 m c]
  refine congrArg (V m c main_arg0) (funext fun a => Fin.ext ?_)
  show win0_0.index t a * S8x128x1024.size a + 1 * _ = _
  rw [index_tokens]
  match a with
  | ⟨0, _⟩ => show 0 * 8 + 1 * s.val = s.val; omega
  | ⟨1, _⟩ => show t.val * 128 + 1 * l.val = t.val * 128 + l.val; omega
  | ⟨2, _⟩ => show 0 * 1024 + 1 * j.val = j.val; omega

/-- The region finds what the lines before it leave. -/
theorem entered (b : Ref sig .tc) : V m c b = StableHlo.after hostOps0 (fun b => m (c, b)) (Proc.devRef .tc b) :=
  congrArg (fun ops => StableHlo.after ops (fun b => m (c, b)) (Proc.devRef .tc b)) (List.append_nil hostOps0)

/-- The feed-forward gain: the whole array at every point. -/
theorem gain_apply (t : Fin grid0.N) (k : Fin 1) (j : Fin 1024) :
    iblk m c 1 t (ix2 k j) = m ((c : Thread nD τ).loc main_arg1) (ix2 0 j) := by
  have e : V m c main_v1 (ix2 k j) = m ((c : Thread nD τ).loc main_arg1) (ix2 0 j) := by
    rw [entered]
    entry_read
    pointwise
  rw [← e]
  exact congrArg (V m c main_v1) (funext fun a => Fin.ext (by
    match a with
    | ⟨0, _⟩ => show 0 * 1 + 1 * k.val = k.val; omega
    | ⟨1, _⟩ => show 0 * 1024 + 1 * j.val = j.val; omega))

/-- The gate weights: the whole array at every point. -/
theorem wgate_apply (t : Fin grid0.N) (k : Fin 1024) (j : Fin 2816) :
    iblk m c 2 t (ix2 k j) = m ((c : Thread nD τ).loc main_arg2) (ix3 0 k j) := by
  have e : V m c main_v3 (ix2 k j) = m ((c : Thread nD τ).loc main_arg2) (ix3 0 k j) := by
    rw [entered]
    entry_read
    pointwise
  rw [← e]
  exact congrArg (V m c main_v3) (funext fun a => Fin.ext (by
    match a with
    | ⟨0, _⟩ => show 0 * 1024 + 1 * k.val = k.val; omega
    | ⟨1, _⟩ => show 0 * 2816 + 1 * j.val = j.val; omega))

/-- The up weights: the whole array at every point. -/
theorem wup_apply (t : Fin grid0.N) (k : Fin 1024) (j : Fin 2816) :
    iblk m c 3 t (ix2 k j) = m ((c : Thread nD τ).loc main_arg3) (ix3 0 k j) := by
  have e : V m c main_v5 (ix2 k j) = m ((c : Thread nD τ).loc main_arg3) (ix3 0 k j) := by
    rw [entered]
    entry_read
    pointwise
  rw [← e]
  exact congrArg (V m c main_v5) (funext fun a => Fin.ext (by
    match a with
    | ⟨0, _⟩ => show 0 * 1024 + 1 * k.val = k.val; omega
    | ⟨1, _⟩ => show 0 * 2816 + 1 * j.val = j.val; omega))

/-- The down weights: the whole array at every point. -/
theorem wdown_apply (t : Fin grid0.N) (k : Fin 2816) (j : Fin 1024) :
    iblk m c 4 t (ix2 k j) = m ((c : Thread nD τ).loc main_arg4) (ix3 0 k j) := by
  have e : V m c main_v7 (ix2 k j) = m ((c : Thread nD τ).loc main_arg4) (ix3 0 k j) := by
    rw [entered]
    entry_read
    pointwise
  rw [← e]
  exact congrArg (V m c main_v7) (funext fun a => Fin.ext (by
    match a with
    | ⟨0, _⟩ => show 0 * 2816 + 1 * k.val = k.val; omega
    | ⟨1, _⟩ => show 0 * 1024 + 1 * j.val = j.val; omega))

/-- The mixer norm's gain: the whole array at every point. -/
theorem gainm_apply (t : Fin grid0.N) (k : Fin 1) (j : Fin 1024) :
    iblk m c 5 t (ix2 k j) = m ((c : Thread nD τ).loc main_arg5) (ix2 0 j) := by
  have e : V m c main_v9 (ix2 k j) = m ((c : Thread nD τ).loc main_arg5) (ix2 0 j) := by
    rw [entered]
    entry_read
    pointwise
  rw [← e]
  exact congrArg (V m c main_v9) (funext fun a => Fin.ext (by
    match a with
    | ⟨0, _⟩ => show 0 * 1 + 1 * k.val = k.val; omega
    | ⟨1, _⟩ => show 0 * 1024 + 1 * j.val = j.val; omega))

/-- The input projection, transposed: the whole array at every point. -/
theorem win_apply (t : Fin grid0.N) (k : Fin 1536) (j : Fin 1024) :
    iblk m c 6 t (ix2 k j) = m ((c : Thread nD τ).loc main_arg6) (ix3 0 j k) := by
  have e : V m c main_v12 (ix2 k j) = m ((c : Thread nD τ).loc main_arg6) (ix3 0 j k) := by
    rw [entered]
    entry_read
    pointwise
  rw [← e]
  exact congrArg (V m c main_v12) (funext fun a => Fin.ext (by
    match a with
    | ⟨0, _⟩ => show 0 * 1536 + 1 * k.val = k.val; omega
    | ⟨1, _⟩ => show 0 * 1024 + 1 * j.val = j.val; omega))

/-- The gate rows to cast. -/
theorem gateRows_apply (t : Fin grid0.N) (k : Fin 32) (j : Fin 2816) :
    iblk m c 7 t (ix2 k j) = m ((c : Thread nD τ).loc main_arg7) (ix3 0 (⟨t.val * 32 + k.val, by have : t.val < 32 := t.isLt; omega⟩ : Fin 1024) j) := by
  have e : V m c main_v13 (ix2 (⟨t.val * 32 + k.val, by have : t.val < 32 := t.isLt; omega⟩ : Fin 1024) j)
      = m ((c : Thread nD τ).loc main_arg7) (ix3 0 (⟨t.val * 32 + k.val, by have : t.val < 32 := t.isLt; omega⟩ : Fin 1024) j) := by
    rw [entered]
    entry_read
    pointwise
  rw [← e]
  refine congrArg (V m c main_v13) (funext fun a => Fin.ext ?_)
  show win0_7.index t a * S32x2816.size a + 1 * _ = _
  rw [index_gate]
  match a with
  | ⟨0, _⟩ => show t.val * 32 + 1 * k.val = t.val * 32 + k.val; omega
  | ⟨1, _⟩ => show 0 * 2816 + 1 * j.val = j.val; omega

/-- The up rows to cast. -/
theorem upRows_apply (t : Fin grid0.N) (k : Fin 32) (j : Fin 2816) :
    iblk m c 8 t (ix2 k j) = m ((c : Thread nD τ).loc main_arg8) (ix3 0 (⟨t.val * 32 + k.val, by have : t.val < 32 := t.isLt; omega⟩ : Fin 1024) j) := by
  have e : V m c main_v14 (ix2 (⟨t.val * 32 + k.val, by have : t.val < 32 := t.isLt; omega⟩ : Fin 1024) j)
      = m ((c : Thread nD τ).loc main_arg8) (ix3 0 (⟨t.val * 32 + k.val, by have : t.val < 32 := t.isLt; omega⟩ : Fin 1024) j) := by
    rw [entered]
    entry_read
    pointwise
  rw [← e]
  refine congrArg (V m c main_v14) (funext fun a => Fin.ext ?_)
  show win0_8.index t a * S32x2816.size a + 1 * _ = _
  rw [index_up]
  match a with
  | ⟨0, _⟩ => show t.val * 32 + 1 * k.val = t.val * 32 + k.val; omega
  | ⟨1, _⟩ => show 0 * 2816 + 1 * j.val = j.val; omega

/-- The down rows to cast. -/
theorem downRows_apply (t : Fin grid0.N) (k : Fin 176) (j : Fin 1024) :
    iblk m c 9 t (ix2 k j) = m ((c : Thread nD τ).loc main_arg9) (ix3 0 (⟨t.val / 2 * 176 + k.val, by have : t.val < 32 := t.isLt; omega⟩ : Fin 2816) j) := by
  have e : V m c main_v15 (ix2 (⟨t.val / 2 * 176 + k.val, by have : t.val < 32 := t.isLt; omega⟩ : Fin 2816) j)
      = m ((c : Thread nD τ).loc main_arg9) (ix3 0 (⟨t.val / 2 * 176 + k.val, by have : t.val < 32 := t.isLt; omega⟩ : Fin 2816) j) := by
    rw [entered]
    entry_read
    pointwise
  rw [← e]
  refine congrArg (V m c main_v15) (funext fun a => Fin.ext ?_)
  show win0_9.index t a * S176x1024.size a + 1 * _ = _
  rw [index_down]
  match a with
  | ⟨0, _⟩ => show t.val / 2 * 176 + 1 * k.val = t.val / 2 * 176 + k.val; omega
  | ⟨1, _⟩ => show 0 * 1024 + 1 * j.val = j.val; omega

/-- The output rows to cast. -/
theorem woutRows_apply (t : Fin grid0.N) (k : Fin 32) (j : Fin 1024) :
    iblk m c 10 t (ix2 k j) = m ((c : Thread nD τ).loc main_arg10) (ix3 0 (⟨t.val * 32 + k.val, by have : t.val < 32 := t.isLt; omega⟩ : Fin 1024) j) := by
  have e : V m c main_v16 (ix2 (⟨t.val * 32 + k.val, by have : t.val < 32 := t.isLt; omega⟩ : Fin 1024) j)
      = m ((c : Thread nD τ).loc main_arg10) (ix3 0 (⟨t.val * 32 + k.val, by have : t.val < 32 := t.isLt; omega⟩ : Fin 1024) j) := by
    rw [entered]
    entry_read
    pointwise
  rw [← e]
  refine congrArg (V m c main_v16) (funext fun a => Fin.ext ?_)
  show win0_10.index t a * S32x1024.size a + 1 * _ = _
  rw [index_wout]
  match a with
  | ⟨0, _⟩ => show t.val * 32 + 1 * k.val = t.val * 32 + k.val; omega
  | ⟨1, _⟩ => show 0 * 1024 + 1 * j.val = j.val; omega

end Cert.FfnInIdeal.Array

end
-- ==== Proof.FfnFinal.lean ====
/- The input call's result arrays are the reference's results. -/
module

public import proofs.«01_k».proof.Proof.FfnValue

@[expose] public section

set_option maxRecDepth 16384

noncomputable section

namespace Cert.FfnInIdeal.Array

open Cert.FfnInIdeal Cert.FfnInIdeal.Gen Idealize.ShloMosaic Idealize.ShloMosaic.TcCoe Idealize.SL.Sem
open Cert.FfnInIdeal.Launch Cert.FfnInIdeal.Columns Cert.FfnInRefIdeal.Read

variable (m : (ℓ : Loc nD τ sig) → Buf (Elt Ideal) ℓ) (c : Dev nD)

/-! ## The reference's results at the program's arguments -/

/-- The residual stream. -/
def expected_tile : FVec Ideal S8x4096x1024 .f32 :=
  val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The S5 columns. -/
def plain_columns : FVec Ideal S8x4096x512 .f32 :=
  val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The S5 slab. -/
def expected_plain : FVec Ideal S512x256x128 .f32 := slabOf (plain_columns m c)

/-- The gated convolution columns. -/
def product_columns : FVec Ideal S8x4096x512 .f32 :=
  val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The convolution slab. -/
def expected_product : FVec Ideal S512x256x128 .f32 := slabOf (product_columns m c)

/-- The gate weights, cast. -/
def expected_gate : FVec Ideal S1024x2816 .bf16 :=
  val_main_v53 (F := Ideal) (m ((c : Thread nD τ).loc main_arg7))

/-- The up weights, cast. -/
def expected_up : FVec Ideal S1024x2816 .bf16 :=
  val_main_v55 (F := Ideal) (m ((c : Thread nD τ).loc main_arg8))

/-- The down weights, cast. -/
def expected_down : FVec Ideal S2816x1024 .bf16 :=
  val_main_v57 (F := Ideal) (m ((c : Thread nD τ).loc main_arg9))

/-- The output projection, cast. -/
def expected_wout : FVec Ideal S1024x1024 .bf16 :=
  val_main_v59 (F := Ideal) (m ((c : Thread nD τ).loc main_arg10))

/-! ## The stored blocks -/

/-- The loads of the body at an index of the window they read. -/
theorem load_tokens (t : Fin grid0.N) (s : Fin 8) (l : Fin 128) (j : Fin 1024) :
    View.ld (iblk m c 0 t) (Rect.unit (s := S8x128x1024) ![0, 0, 0] S8x128x1024.size inb_S8x128x1024_S8x128x1024_0_0_0) (ix3 s l j)
      = m ((c : Thread nD τ).loc main_arg0) (ix3 s (⟨t.val * 128 + l.val, by have : t.val < 32 := t.isLt; omega⟩ : Fin 4096) j) :=
  (by pointwise : _ = iblk m c 0 t (ix3 s l j)).trans (tokens_apply m c t s l j)
/-- The feed-forward gain as loaded. -/
theorem load_gain (t : Fin grid0.N) (j : Fin 1024) :
    View.ld (iblk m c 1 t) (Rect.unit (s := S1x1024) ![0, 0] S1x1024.size inb_S1x1024_S1x1024_0_0) (ix2 0 j)
      = m ((c : Thread nD τ).loc main_arg1) (ix2 0 j) :=
  (by pointwise : _ = iblk m c 1 t (ix2 0 j)).trans (gain_apply m c t 0 j)
/-- The mixer norm's gain as loaded. -/
theorem load_gainm (t : Fin grid0.N) (j : Fin 1024) :
    View.ld (iblk m c 5 t) (Rect.unit (s := S1x1024) ![0, 0] S1x1024.size inb_S1x1024_S1x1024_0_0) (ix2 0 j)
      = m ((c : Thread nD τ).loc main_arg5) (ix2 0 j) :=
  (by pointwise : _ = iblk m c 5 t (ix2 0 j)).trans (gainm_apply m c t 0 j)
/-- The S5 rows of the input projection as loaded. -/
theorem load_plain (t : Fin grid0.N) (ch : Fin 512) (k : Fin 1024) :
    View.ld (iblk m c 6 t) (Rect.unit (s := S1536x1024) ![0, 0] S512x1024.size inb_S1536x1024_S512x1024_0_0) (ix2 ch k)
      = m ((c : Thread nD τ).loc main_arg6) (ix3 0 k (⟨ch.val, by omega⟩ : Fin 1536)) :=
  (by pointwise : _ = iblk m c 6 t (ix2 (⟨ch.val, by omega⟩ : Fin 1536) k)).trans (win_apply m c t _ k)
/-- The convolution's rows of the input projection as loaded. -/
theorem load_product (t : Fin grid0.N) (ch : Fin 512) (k : Fin 1024) :
    View.ld (iblk m c 6 t) (Rect.unit (s := S1536x1024) ![512, 0] S512x1024.size inb_S1536x1024_S512x1024_512_0) (ix2 ch k)
      = m ((c : Thread nD τ).loc main_arg6) (ix3 0 k (⟨512 + ch.val, by omega⟩ : Fin 1536)) :=
  (by pointwise : _ = iblk m c 6 t (ix2 (⟨512 + ch.val, by omega⟩ : Fin 1536) k)).trans (win_apply m c t _ k)
/-- The gate's rows of the input projection as loaded. -/
theorem load_gating (t : Fin grid0.N) (ch : Fin 512) (k : Fin 1024) :
    View.ld (iblk m c 6 t) (Rect.unit (s := S1536x1024) ![1024, 0] S512x1024.size inb_S1536x1024_S512x1024_1024_0) (ix2 ch k)
      = m ((c : Thread nD τ).loc main_arg6) (ix3 0 k (⟨1024 + ch.val, by omega⟩ : Fin 1536)) :=
  (by pointwise : _ = iblk m c 6 t (ix2 (⟨1024 + ch.val, by omega⟩ : Fin 1536) k)).trans (win_apply m c t _ k)

/-- A projection depends on its row, gain and weights only. -/
theorem projected_congr {x x' g g' w w' : Fin 1024 → EReal} (hx : x = x') (hg : g = g') (hw : w = w') :
    Token.projected x g w = Token.projected x' g' w' := by rw [hx, hg, hw]

/-- Point `t`'s tile holds the reference's rows of its time chunk. -/
theorem tile_apply (t : Fin grid0.N) (s : Fin 8) (l : Fin 128) (j : Fin 1024) :
    Body.tokens (iblk m c 0 t) (iblk m c 1 t) (iblk m c 2 t) (iblk m c 3 t) (iblk m c 4 t) (iblk m c 5 t) (iblk m c 6 t) (ix3 s l j)
      = expected_tile m c (ix3 s (⟨t.val * 128 + l.val, by have : t.val < 32 := t.isLt; omega⟩ : Fin 4096) j) := by
  unfold Body.tokens
  rw [Tile.tile_token _ _ _ _ _ _ _ _ (fun k j => m ((c : Thread nD τ).loc main_arg2) (ix3 0 k j)) (fun k j => m ((c : Thread nD τ).loc main_arg3) (ix3 0 k j))
    (fun k j => m ((c : Thread nD τ).loc main_arg4) (ix3 0 k j))
    (fun k j => (by pointwise : _ = iblk m c 2 t (ix2 k (⟨j.val, by omega⟩ : Fin 2816))).trans (wgate_apply m c t _ _))
    (fun k j => (by pointwise : _ = iblk m c 2 t (ix2 k (⟨1536 + j.val, by omega⟩ : Fin 2816))).trans (wgate_apply m c t _ _))
    (fun k j => (by pointwise : _ = iblk m c 3 t (ix2 k (⟨j.val, by omega⟩ : Fin 2816))).trans (wup_apply m c t _ _))
    (fun k j => (by pointwise : _ = iblk m c 3 t (ix2 k (⟨1536 + j.val, by omega⟩ : Fin 2816))).trans (wup_apply m c t _ _))
    (fun k j => (by pointwise : _ = iblk m c 4 t (ix2 (⟨k.val, by omega⟩ : Fin 2816) j)).trans (wdown_apply m c t _ _))
    (fun k j => (by pointwise : _ = iblk m c 4 t (ix2 (⟨1536 + k.val, by omega⟩ : Fin 2816) j)).trans (wdown_apply m c t _ _))]
  rw [expected_tile, Cert.FfnInRefIdeal.At.stepped_at, Cert.FfnInRefIdeal.At.steppedAt]
  exact congrFun (congrArg₂ (fun a b => Token.ffn a b _ _ _) (funext fun j => load_tokens m c t s l j) (funext fun j => load_gain m c t j)) j

/-- Point `t`'s S5 block holds the reference's slab of its time chunk. -/
theorem plain_apply (t : Fin grid0.N) (ch : Fin 512) (s : Fin 8) (l : Fin 128) :
    Body.plain (iblk m c 0 t) (iblk m c 1 t) (iblk m c 2 t) (iblk m c 3 t) (iblk m c 4 t) (iblk m c 5 t) (iblk m c 6 t) (ix3 ch s l)
      = expected_plain m c (ix3 ch (⟨8 * t.val + s.val, by have : t.val < 32 := t.isLt; omega⟩ : Fin 256) l) := by
  unfold Body.plain
  rw [Slab.slab_apply, Tile.plain_token _ _ _ _ _ _ _ _ _ (fun k j => m ((c : Thread nD τ).loc main_arg2) (ix3 0 k j)) (fun k j => m ((c : Thread nD τ).loc main_arg3) (ix3 0 k j))
    (fun k j => m ((c : Thread nD τ).loc main_arg4) (ix3 0 k j))
    (fun k j => (by pointwise : _ = iblk m c 2 t (ix2 k (⟨j.val, by omega⟩ : Fin 2816))).trans (wgate_apply m c t _ _))
    (fun k j => (by pointwise : _ = iblk m c 2 t (ix2 k (⟨1536 + j.val, by omega⟩ : Fin 2816))).trans (wgate_apply m c t _ _))
    (fun k j => (by pointwise : _ = iblk m c 3 t (ix2 k (⟨j.val, by omega⟩ : Fin 2816))).trans (wup_apply m c t _ _))
    (fun k j => (by pointwise : _ = iblk m c 3 t (ix2 k (⟨1536 + j.val, by omega⟩ : Fin 2816))).trans (wup_apply m c t _ _))
    (fun k j => (by pointwise : _ = iblk m c 4 t (ix2 (⟨k.val, by omega⟩ : Fin 2816) j)).trans (wdown_apply m c t _ _))
    (fun k j => (by pointwise : _ = iblk m c 4 t (ix2 (⟨1536 + k.val, by omega⟩ : Fin 2816) j)).trans (wdown_apply m c t _ _))]
  refine Eq.trans ?_ ((slabOf_at _ t s l ch).trans (Cert.FfnInRefIdeal.At.plain_at _ _ _ _ _ _ _ s (⟨t.val * 128 + l.val, by have : t.val < 32 := t.isLt; omega⟩ : Fin 4096) ch)).symm
  rw [Cert.FfnInRefIdeal.At.steppedAt]
  exact (projected_congr (congrArg₂ (fun a b => Token.ffn a b _ _ _) (funext fun j => load_tokens m c t s l j) (funext fun j => load_gain m c t j))
      (funext fun j => load_gainm m c t j) (funext fun k => load_plain m c t ch k))

/-- Point `t`'s convolution block holds the reference's slab of its time chunk. -/
theorem product_apply (t : Fin grid0.N) (ch : Fin 512) (s : Fin 8) (l : Fin 128) :
    Body.product (iblk m c 0 t) (iblk m c 1 t) (iblk m c 2 t) (iblk m c 3 t) (iblk m c 4 t) (iblk m c 5 t) (iblk m c 6 t) (ix3 ch s l)
      = expected_product m c (ix3 ch (⟨8 * t.val + s.val, by have : t.val < 32 := t.isLt; omega⟩ : Fin 256) l) := by
  unfold Body.product
  rw [Slab.slab_apply, Tile.product_token _ _ _ _ _ _ _ _ _ (fun k j => m ((c : Thread nD τ).loc main_arg2) (ix3 0 k j)) (fun k j => m ((c : Thread nD τ).loc main_arg3) (ix3 0 k j))
    (fun k j => m ((c : Thread nD τ).loc main_arg4) (ix3 0 k j))
    (fun k j => (by pointwise : _ = iblk m c 2 t (ix2 k (⟨j.val, by omega⟩ : Fin 2816))).trans (wgate_apply m c t _ _))
    (fun k j => (by pointwise : _ = iblk m c 2 t (ix2 k (⟨1536 + j.val, by omega⟩ : Fin 2816))).trans (wgate_apply m c t _ _))
    (fun k j => (by pointwise : _ = iblk m c 3 t (ix2 k (⟨j.val, by omega⟩ : Fin 2816))).trans (wup_apply m c t _ _))
    (fun k j => (by pointwise : _ = iblk m c 3 t (ix2 k (⟨1536 + j.val, by omega⟩ : Fin 2816))).trans (wup_apply m c t _ _))
    (fun k j => (by pointwise : _ = iblk m c 4 t (ix2 (⟨k.val, by omega⟩ : Fin 2816) j)).trans (wdown_apply m c t _ _))
    (fun k j => (by pointwise : _ = iblk m c 4 t (ix2 (⟨1536 + k.val, by omega⟩ : Fin 2816) j)).trans (wdown_apply m c t _ _))]
  refine Eq.trans ?_ ((slabOf_at _ t s l ch).trans (Cert.FfnInRefIdeal.At.product_at _ _ _ _ _ _ _ s (⟨t.val * 128 + l.val, by have : t.val < 32 := t.isLt; omega⟩ : Fin 4096) ch)).symm
  rw [Cert.FfnInRefIdeal.At.steppedAt]
  exact congrArg₂ (fun a b => a * Ideal.logistic b) (projected_congr (congrArg₂ (fun a b => Token.ffn a b _ _ _) (funext fun j => load_tokens m c t s l j) (funext fun j => load_gain m c t j))
      (funext fun j => load_gainm m c t j) (funext fun k => load_product m c t ch k))
    (projected_congr (congrArg₂ (fun a b => Token.ffn a b _ _ _) (funext fun j => load_tokens m c t s l j) (funext fun j => load_gain m c t j))
      (funext fun j => load_gainm m c t j) (funext fun k => load_gating m c t ch k))

/-- Point `t`'s cast rows are the reference's. -/
theorem gate_cast_apply (t : Fin grid0.N) (k : Fin 32) (j : Fin 2816) :
    Body.gateCast (iblk m c 7 t) (ix2 k j)
      = expected_gate m c (ix2 (⟨t.val * 32 + k.val, by have : t.val < 32 := t.isLt; omega⟩ : Fin 1024) j) := by
  refine Eq.trans (b := iblk m c 7 t (ix2 k j)) (by pointwise [Body.gateCast, k0_pay1042]) ?_
  exact (gateRows_apply m c t k j).trans (Cert.FfnInRefIdeal.At.gate_cast_at _ _ _).symm

/-- Point `t`'s cast rows are the reference's. -/
theorem up_cast_apply (t : Fin grid0.N) (k : Fin 32) (j : Fin 2816) :
    Body.upCast (iblk m c 8 t) (ix2 k j)
      = expected_up m c (ix2 (⟨t.val * 32 + k.val, by have : t.val < 32 := t.isLt; omega⟩ : Fin 1024) j) := by
  refine Eq.trans (b := iblk m c 8 t (ix2 k j)) (by pointwise [Body.upCast, k0_pay1]) ?_
  exact (upRows_apply m c t k j).trans (Cert.FfnInRefIdeal.At.up_cast_at _ _ _).symm

/-- Point `t`'s cast rows are the reference's. -/
theorem down_cast_apply (t : Fin grid0.N) (k : Fin 176) (j : Fin 1024) :
    Body.downCast (iblk m c 9 t) (ix2 k j)
      = expected_down m c (ix2 (⟨t.val / 2 * 176 + k.val, by have : t.val < 32 := t.isLt; omega⟩ : Fin 2816) j) := by
  refine Eq.trans (b := iblk m c 9 t (ix2 k j)) (by pointwise [Body.downCast, k0_pay2]) ?_
  exact (downRows_apply m c t k j).trans (Cert.FfnInRefIdeal.At.down_cast_at _ _ _).symm

/-- Point `t`'s cast rows are the reference's. -/
theorem wout_cast_apply (t : Fin grid0.N) (k : Fin 32) (j : Fin 1024) :
    Body.outCast (iblk m c 10 t) (ix2 k j)
      = expected_wout m c (ix2 (⟨t.val * 32 + k.val, by have : t.val < 32 := t.isLt; omega⟩ : Fin 1024) j) := by
  refine Eq.trans (b := iblk m c 10 t (ix2 k j)) (by pointwise [Body.outCast, k0_pay3]) ?_
  exact (woutRows_apply m c t k j).trans (Cert.FfnInRefIdeal.At.out_cast_at _ _ _).symm

/-! ## The result arrays -/

/-- The residual stream's array. -/
theorem tile_eq : (data m 0 c).arrAt 11 cfg0.N = expected_tile m c := by
  funext i
  have h1 : (i 1).val < 4096 := (i 1).isLt
  let t : Fin grid0.N := ⟨(i 1).val / 128, by show (i 1).val / 128 < 32; omega⟩
  let l : Fin 128 := ⟨(i 1).val % 128, by omega⟩
  have e : ix3 (i 0 : Fin 8) (⟨t.val * 128 + l.val, by show (i 1).val / 128 * 128 + (i 1).val % 128 < 4096; omega⟩ : Fin 4096) (i 2 : Fin 1024) = i :=
    (congrArg (fun y => ix3 (i 0 : Fin 8) y (i 2 : Fin 1024)) (Fin.ext (Nat.div_add_mod' _ _))).trans (eq_ix3 i).symm
  have hb := congrFun (block_eq_11 m c t) (ix3 (i 0 : Fin 8) l (i 2 : Fin 1024))
  have ht := (tile_apply m c t (i 0) l (i 2)).trans (congrArg (expected_tile m c) e)
  refine Eq.trans (congrArg _ ?_) (hb.trans ht)
  refine e.symm.trans (funext fun a => Fin.ext ?_)
  show _ = win0_11.index t a * S8x128x1024.size a + 1 * _
  rw [index_tile]
  match a with
  | ⟨0, _⟩ => show (i 0).val = 0 * 8 + 1 * (i 0).val; omega
  | ⟨1, _⟩ => show t.val * 128 + l.val = t.val * 128 + 1 * l.val; omega
  | ⟨2, _⟩ => show (i 2).val = 0 * 1024 + 1 * (i 2).val; omega

/-- The S5 slab's array. -/
theorem plain_eq : (data m 0 c).arrAt 12 cfg0.N = expected_plain m c := by
  funext i
  have h1 : (i 1).val < 256 := (i 1).isLt
  let t : Fin grid0.N := ⟨(i 1).val / 8, by show (i 1).val / 8 < 32; omega⟩
  let s : Fin 8 := ⟨(i 1).val % 8, by omega⟩
  have e : ix3 (i 0 : Fin 512) (⟨8 * t.val + s.val, by show 8 * ((i 1).val / 8) + (i 1).val % 8 < 256; omega⟩ : Fin 256) (i 2 : Fin 128) = i :=
    (congrArg (fun y => ix3 (i 0 : Fin 512) y (i 2 : Fin 128)) (Fin.ext (Nat.div_add_mod _ _))).trans (eq_ix3 i).symm
  have hb := congrFun (block_eq_12 m c t) (ix3 (i 0 : Fin 512) s (i 2 : Fin 128))
  have ht := (plain_apply m c t (i 0) s (i 2)).trans (congrArg (expected_plain m c) e)
  refine Eq.trans (congrArg _ ?_) (hb.trans ht)
  refine e.symm.trans (funext fun a => Fin.ext ?_)
  show _ = win0_12.index t a * S512x8x128.size a + 1 * _
  rw [index_plain]
  match a with
  | ⟨0, _⟩ => show (i 0).val = 0 * 512 + 1 * (i 0).val; omega
  | ⟨1, _⟩ => show 8 * t.val + s.val = t.val * 8 + 1 * s.val; omega
  | ⟨2, _⟩ => show (i 2).val = 0 * 128 + 1 * (i 2).val; omega

/-- The convolution slab's array. -/
theorem product_eq : (data m 0 c).arrAt 13 cfg0.N = expected_product m c := by
  funext i
  have h1 : (i 1).val < 256 := (i 1).isLt
  let t : Fin grid0.N := ⟨(i 1).val / 8, by show (i 1).val / 8 < 32; omega⟩
  let s : Fin 8 := ⟨(i 1).val % 8, by omega⟩
  have e : ix3 (i 0 : Fin 512) (⟨8 * t.val + s.val, by show 8 * ((i 1).val / 8) + (i 1).val % 8 < 256; omega⟩ : Fin 256) (i 2 : Fin 128) = i :=
    (congrArg (fun y => ix3 (i 0 : Fin 512) y (i 2 : Fin 128)) (Fin.ext (Nat.div_add_mod _ _))).trans (eq_ix3 i).symm
  have hb := congrFun (block_eq_13 m c t) (ix3 (i 0 : Fin 512) s (i 2 : Fin 128))
  have ht := (product_apply m c t (i 0) s (i 2)).trans (congrArg (expected_product m c) e)
  refine Eq.trans (congrArg _ ?_) (hb.trans ht)
  refine e.symm.trans (funext fun a => Fin.ext ?_)
  show _ = win0_13.index t a * S512x8x128.size a + 1 * _
  rw [index_product]
  match a with
  | ⟨0, _⟩ => show (i 0).val = 0 * 512 + 1 * (i 0).val; omega
  | ⟨1, _⟩ => show 8 * t.val + s.val = t.val * 8 + 1 * s.val; omega
  | ⟨2, _⟩ => show (i 2).val = 0 * 128 + 1 * (i 2).val; omega

/-- The S5 columns, laid back from their slab. -/
theorem plain_columns_eq : columns ((data m 0 c).arrAt 12 cfg0.N) = plain_columns m c := by
  rw [plain_eq, expected_plain, columns_slabOf]

/-- The gated convolution columns, laid back from their slab. -/
theorem product_columns_eq : columns ((data m 0 c).arrAt 13 cfg0.N) = product_columns m c := by
  rw [product_eq, expected_product, columns_slabOf]

/-- The cast gate weights. -/
theorem gate_eq : (data m 0 c).arrAt 14 cfg0.N = expected_gate m c := by
  funext i
  have h0 : (i 0).val < 1024 := (i 0).isLt
  let t : Fin grid0.N := ⟨(i 0).val / 32, by show (i 0).val / 32 < 32; omega⟩
  let k : Fin 32 := ⟨(i 0).val % 32, by omega⟩
  have e : ix2 (⟨t.val * 32 + k.val, by show (i 0).val / 32 * 32 + (i 0).val % 32 < 1024; omega⟩ : Fin 1024) (i 1 : Fin 2816) = i :=
    (congrArg (fun y => ix2 y (i 1 : Fin 2816)) (Fin.ext (Nat.div_add_mod' _ _))).trans (eq_ix2 i).symm
  have hb := congrFun (block_eq_14 m c t) (ix2 k (i 1 : Fin 2816))
  have ht := (gate_cast_apply m c t k (i 1)).trans (congrArg (expected_gate m c) e)
  refine Eq.trans (congrArg _ ?_) (hb.trans ht)
  refine e.symm.trans (funext fun a => Fin.ext ?_)
  show _ = win0_14.index t a * S32x2816.size a + 1 * _
  rw [index_gateCast]
  match a with
  | ⟨0, _⟩ => show t.val * 32 + k.val = t.val * 32 + 1 * k.val; omega
  | ⟨1, _⟩ => show (i 1).val = 0 * 2816 + 1 * (i 1).val; omega

/-- The cast up weights. -/
theorem up_eq : (data m 0 c).arrAt 15 cfg0.N = expected_up m c := by
  funext i
  have h0 : (i 0).val < 1024 := (i 0).isLt
  let t : Fin grid0.N := ⟨(i 0).val / 32, by show (i 0).val / 32 < 32; omega⟩
  let k : Fin 32 := ⟨(i 0).val % 32, by omega⟩
  have e : ix2 (⟨t.val * 32 + k.val, by show (i 0).val / 32 * 32 + (i 0).val % 32 < 1024; omega⟩ : Fin 1024) (i 1 : Fin 2816) = i :=
    (congrArg (fun y => ix2 y (i 1 : Fin 2816)) (Fin.ext (Nat.div_add_mod' _ _))).trans (eq_ix2 i).symm
  have hb := congrFun (block_eq_15 m c t) (ix2 k (i 1 : Fin 2816))
  have ht := (up_cast_apply m c t k (i 1)).trans (congrArg (expected_up m c) e)
  refine Eq.trans (congrArg _ ?_) (hb.trans ht)
  refine e.symm.trans (funext fun a => Fin.ext ?_)
  show _ = win0_15.index t a * S32x2816.size a + 1 * _
  rw [index_upCast]
  match a with
  | ⟨0, _⟩ => show t.val * 32 + k.val = t.val * 32 + 1 * k.val; omega
  | ⟨1, _⟩ => show (i 1).val = 0 * 2816 + 1 * (i 1).val; omega

/-- The cast output projection. -/
theorem wout_eq : (data m 0 c).arrAt 17 cfg0.N = expected_wout m c := by
  funext i
  have h0 : (i 0).val < 1024 := (i 0).isLt
  let t : Fin grid0.N := ⟨(i 0).val / 32, by show (i 0).val / 32 < 32; omega⟩
  let k : Fin 32 := ⟨(i 0).val % 32, by omega⟩
  have e : ix2 (⟨t.val * 32 + k.val, by show (i 0).val / 32 * 32 + (i 0).val % 32 < 1024; omega⟩ : Fin 1024) (i 1 : Fin 1024) = i :=
    (congrArg (fun y => ix2 y (i 1 : Fin 1024)) (Fin.ext (Nat.div_add_mod' _ _))).trans (eq_ix2 i).symm
  have hb := congrFun (block_eq_17 m c t) (ix2 k (i 1 : Fin 1024))
  have ht := (wout_cast_apply m c t k (i 1)).trans (congrArg (expected_wout m c) e)
  refine Eq.trans (congrArg _ ?_) (hb.trans ht)
  refine e.symm.trans (funext fun a => Fin.ext ?_)
  show _ = win0_17.index t a * S32x1024.size a + 1 * _
  rw [index_woutCast]
  match a with
  | ⟨0, _⟩ => show t.val * 32 + k.val = t.val * 32 + 1 * k.val; omega
  | ⟨1, _⟩ => show (i 1).val = 0 * 1024 + 1 * (i 1).val; omega

/-- The cast down weights: each block is written back at the second of its two points. -/
theorem down_eq : (data m 0 c).arrAt 16 cfg0.N = expected_down m c := by
  funext i
  have h0 : (i 0).val < 2816 := (i 0).isLt
  let t : Fin grid0.N := ⟨2 * ((i 0).val / 176) + 1, by show 2 * ((i 0).val / 176) + 1 < 32; omega⟩
  have ht2 : t.val / 2 = (i 0).val / 176 := by show (2 * ((i 0).val / 176) + 1) / 2 = _; omega
  let k : Fin 176 := ⟨(i 0).val % 176, by omega⟩
  have e : ix2 (⟨t.val / 2 * 176 + k.val, by have : t.val < 32 := t.isLt; omega⟩ : Fin 2816) (i 1 : Fin 1024) = i :=
    (congrArg (fun y => ix2 y (i 1 : Fin 1024)) (Fin.ext ((congrArg (· * 176 + k.val) ht2).trans (Nat.div_add_mod' _ _)))).trans (eq_ix2 i).symm
  have hb := congrFun (block_eq_16 m c t (by show (2 * ((i 0).val / 176) + 1) % 2 = 1; omega)) (ix2 k (i 1 : Fin 1024))
  have ht := (down_cast_apply m c t k (i 1)).trans (congrArg (expected_down m c) e)
  refine Eq.trans (congrArg _ ?_) (hb.trans ht)
  refine e.symm.trans (funext fun a => Fin.ext ?_)
  show _ = win0_16.index t a * S176x1024.size a + 1 * _
  rw [index_downCast]
  match a with
  | ⟨0, _⟩ => show t.val / 2 * 176 + k.val = t.val / 2 * 176 + 1 * k.val; omega
  | ⟨1, _⟩ => show (i 1).val = 0 * 1024 + 1 * (i 1).val; omega

end Cert.FfnInIdeal.Array

end
-- ==== Proof.lean ====
module

public import proofs.«01_k».proof.Defs
public import proofs.«01_k».proof.Proof.Gen.OutFfn
public import proofs.«01_k».proof.Proof.Gen.OutFfn.Skeleton
public import proofs.«01_k».proof.Proof.Gen.OutFfn.Launch
public import proofs.«01_k».proof.Proof.Gen.OutFfn.Points
public import proofs.«01_k».proof.Proof.Gen.OutFfn.Frame
public import proofs.«01_k».proof.Proof.Gen.OutFfnIdeal
public import proofs.«01_k».proof.Proof.Gen.OutFfnIdeal.Skeleton
public import proofs.«01_k».proof.Proof.Gen.OutFfnIdeal.Launch
public import proofs.«01_k».proof.Proof.Gen.OutFfnIdeal.Points
public import proofs.«01_k».proof.Proof.Gen.OutFfnIdeal.Frame
public import proofs.«01_k».proof.Proof.Gen.OutFfnRefIdeal
public import proofs.«01_k».proof.Proof.Gen.OutFfnRefIdeal.Run
public import proofs.«01_k».proof.Proof.Gen.OutFfnRefIdeal.Read
public import proofs.«01_k».proof.Proof.Gen.FfnIn
public import proofs.«01_k».proof.Proof.Gen.FfnInIdeal
public import proofs.«01_k».proof.Proof.Gen.FfnInRefIdeal
public import proofs.«01_k».proof.Proof.Gen.FfnInRefIdeal.Run
public import proofs.«01_k».proof.Proof.Gen.FfnInRefIdeal.Read

public import proofs.«01_k».proof.Proof.OutFinal
public import proofs.«01_k».proof.Proof.FfnFinal
public import Idealize.ShloMosaic.Adequacy
public import Idealize.ShloMosaic.Init

@[expose] public section

noncomputable section

namespace Cert.Proof

open Idealize.ShloMosaic Idealize.SL.Sem Cert.OutFfn

/-- The output call's frame on bits: the argument arrays end unchanged and the counters at zero. The program has the
    ideal program's text, so the one run over any float values gives it. -/
theorem out_frame : Cert.quiescent_OutFfn := by
  have h := fun m ρ (_ : True) => Cert.OutFfnIdeal.Launch.frame (F := Bits) m ρ
  exact Eq.mp (by sl_kernel_rfl) h

/-- The output call's frame over the extended reals. -/
theorem out_frame_ideal : Cert.quiescent_OutFfnIdeal := fun m ρ _ => Cert.OutFfnIdeal.Launch.frame (F := Ideal) m ρ

/-- The reference's frame over the extended reals. -/
theorem out_frame_reference : Cert.quiescent_OutFfnRefIdeal := fun m ρ _ =>
  (θ_run Cert.OutFfnRefIdeal.defs _ _).mono (fun r h => ⟨fun c => (h c).2, sem_eq_zero_of_no_sems (by decide) r.2⟩)
    (Cert.OutFfnRefIdeal.Value.run (F := Ideal) m ρ)

/-- The output call and the reference compute the same array over the extended reals. -/
theorem out_algebraic : Cert.algebraic_OutFfnIdeal_OutFfnRefIdeal := by
  intro m g m' g' _ hm
  refine ⟨fun c => Cert.OutFfnIdeal.Array.expected m c, ?_, ?_⟩
  · exact (θ_run Cert.OutFfnIdeal.defs _ _).mono
      (fun _ h c => ⟨(h.1.1 c).trans (Cert.OutFfnIdeal.Array.result_eq m c), h.1.2 c⟩)
      (Cert.OutFfnIdeal.Launch.run_result (F := Ideal) m g)
  · refine (θ_run Cert.OutFfnRefIdeal.defs _ _).mono (fun _ h c => ⟨?_, (h c).2⟩) (Cert.OutFfnRefIdeal.Value.run (F := Ideal) m' g')
    obtain ⟨h0, h1, h2, h3, h4, h5, h6, h7, h8, h9, h10⟩ := hm c
    refine (h c).1.trans ((Cert.OutFfnRefIdeal.Read.val_main_v54_eq m' c).trans ?_)
    rw [h0, h1, h2, h3, h4, h5, h6, h7, h8, h9, h10]
    rfl

/-- The input call's frame on bits. -/
theorem in_frame : Cert.quiescent_FfnIn := by
  have h := fun m ρ (_ : True) => Cert.FfnInIdeal.Launch.frame (F := Bits) m ρ
  exact Eq.mp (by sl_kernel_rfl) h

/-- The input call's frame over the extended reals. -/
theorem in_frame_ideal : Cert.quiescent_FfnInIdeal := fun m ρ _ => Cert.FfnInIdeal.Launch.frame (F := Ideal) m ρ

/-- The frame of the input call's reference. -/
theorem in_frame_reference : Cert.quiescent_FfnInRefIdeal := fun m ρ _ =>
  (θ_run Cert.FfnInRefIdeal.defs _ _).mono (fun r h => ⟨fun c => (h c).2.2.2.2.2.2.2, sem_eq_zero_of_no_sems (by decide) r.2⟩)
    (Cert.FfnInRefIdeal.Value.run (F := Ideal) m ρ)

open Cert.FfnInIdeal.Array in
/-- The input call and its reference compute the same arrays over the extended reals. -/
theorem in_algebraic : Cert.algebraic_FfnInIdeal_FfnInRefIdeal := by
  intro m g m' g' _ hm
  refine ⟨fun c => expected_tile m c, fun c => plain_columns m c, fun c => product_columns m c, fun c => expected_gate m c,
    fun c => expected_up m c, fun c => expected_down m c, fun c => expected_wout m c, ?_, ?_⟩
  · refine (θ_run Cert.FfnInIdeal.defs _ _).mono (fun _ h c => ?_) (Cert.FfnInIdeal.Launch.run_result (F := Ideal) m g)
    obtain ⟨r0, r1, r2, r3, r4, r5, r6⟩ := h.1.1 c
    exact ⟨r0.trans (tile_eq m c), r1.trans (plain_columns_eq m c), r2.trans (product_columns_eq m c), r3.trans (gate_eq m c),
      r4.trans (up_eq m c), r5.trans (down_eq m c), r6.trans (wout_eq m c), h.1.2 c⟩
  · refine (θ_run Cert.FfnInRefIdeal.defs _ _).mono (fun _ h c => ?_) (Cert.FfnInRefIdeal.Value.run (F := Ideal) m' g')
    obtain ⟨h0, h1, h2, h3, h4, h5, h6, h7, h8, h9, h10⟩ := hm c
    obtain ⟨r0, r1, r2, r3, r4, r5, r6, hargs⟩ := h c
    refine ⟨r0.trans ?_, r1.trans ?_, r2.trans ?_, r3.trans ?_, r4.trans ?_, r5.trans ?_, r6.trans ?_, hargs⟩
    · exact (Cert.FfnInRefIdeal.Read.val_main_v24_eq _ _ _ _ _).trans (by rw [h0, h1, h2, h3, h4]; rfl)
    · exact (Cert.FfnInRefIdeal.Read.val_main_v51_eq m' c).trans (by rw [h0, h1, h2, h3, h4, h5, h6]; rfl)
    · exact (Cert.FfnInRefIdeal.Read.val_main_v50_eq m' c).trans (by rw [h0, h1, h2, h3, h4, h5, h6]; rfl)
    · exact (Cert.FfnInRefIdeal.Read.val_main_v53_eq _).trans (by rw [h7]; rfl)
    · exact (Cert.FfnInRefIdeal.Read.val_main_v55_eq _).trans (by rw [h8]; rfl)
    · exact (Cert.FfnInRefIdeal.Read.val_main_v57_eq _).trans (by rw [h9]; rfl)
    · exact (Cert.FfnInRefIdeal.Read.val_main_v59_eq _).trans (by rw [h10]; rfl)

theorem claim : Cert.Claim := ⟨Cert.OutFfn.Gen.facts, Cert.OutFfnIdeal.Gen.facts, Cert.OutFfnRefIdeal.Gen.facts,
  Cert.FfnIn.Gen.facts, Cert.FfnInIdeal.Gen.facts, Cert.FfnInRefIdeal.Gen.facts,
  out_frame, out_frame_ideal, out_frame_reference, in_frame, in_frame_ideal, in_frame_reference,
  trivial, out_algebraic, trivial, in_algebraic⟩

end Cert.Proof

end
